-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S10000x128 : Shape := ⟨2, ![10000, 128]⟩
abbrev S10000 : Shape := ⟨1, ![10000]⟩
abbrev S10000x10 : Shape := ⟨2, ![10000, 10]⟩
abbrev S10x10 : Shape := ⟨2, ![10, 10]⟩
abbrev S_ : Shape := ⟨0, ![]⟩
abbrev S10000x1 : Shape := ⟨2, ![10000, 1]⟩
abbrev S10x10000 : Shape := ⟨2, ![10, 10000]⟩
abbrev S10000x10000 : Shape := ⟨2, ![10000, 10000]⟩
abbrev S10000x16 : Shape := ⟨2, ![10000, 16]⟩
abbrev S10000x15 : Shape := ⟨2, ![10000, 15]⟩
abbrev S10000x15x15 : Shape := ⟨3, ![10000, 15, 15]⟩

class Facts : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  reducesTo_S10000x1_S10000_d1 : S10000x1.ReducesTo [1] S10000
  h_S_ : 0 < S_.numel
  bcast_S10000_S10000x10_0 : S10000.BroadcastsInDim S10000x10 (![0] : Fin 1 → Fin S10000x10.rank)
  bcast_S_S10000x10 : S_.BroadcastsInDim S10000x10 (![] : Fin 0 → Fin S10000x10.rank)
  transposes_S10x10_S10x10_1_0 : S10x10.Transposes [1, 0] S10x10
  transposes_S10000x10_S10x10000_1_0 : S10000x10.Transposes [1, 0] S10x10000
  bcast_S_S10000x10000 : S_.BroadcastsInDim S10000x10000 (![] : Fin 0 → Fin S10000x10000.rank)
  sliceFits_S10000x10000_S10000x16 : S10000x10000.Slices (fun _ => 0) S10000x16
  slices_S10000x16_S10000x1_0_15 : S10000x16.Slices ![0, 15] S10000x1
  shapeCasts_S10000x1_S10000 : S10000x1.ShapeCasts S10000
  slices_S10000x16_S10000x15_0_0 : S10000x16.Slices ![0, 0] S10000x15
  slices_S10000x16_S10000x15_0_1 : S10000x16.Slices ![0, 1] S10000x15
  bcast_S_S10000x15 : S_.BroadcastsInDim S10000x15 (![] : Fin 0 → Fin S10000x15.rank)
  bcast_S10000x15_S10000x15x15_0_1 : S10000x15.BroadcastsInDim S10000x15x15 (![0, 1] : Fin 2 → Fin S10000x15x15.rank)
  bcast_S10000x15_S10000x15x15_0_2 : S10000x15.BroadcastsInDim S10000x15x15 (![0, 2] : Fin 2 → Fin S10000x15x15.rank)
  natLt_1_32 : 1 < 32
  reducesTo_S10000x15x15_S10000x15_d2 : S10000x15x15.ReducesTo [2] S10000x15
  bcast_S10000_S10000x15_0 : S10000.BroadcastsInDim S10000x15 (![0] : Fin 1 → Fin S10000x15.rank)
  gather_S10000x10_S10000x1_S10000x10_1_0_n_n_0_1_110_wf : GatherDims.WF S10000x10 S10000x1 S10000x10 [1] [0] [] [0] [] 1 ![1, 10]
  dot_S10000x10_S10x10_S10000x10_1_0_0_1_n_n_wf : DotDims.WF S10000x10 S10x10 S10000x10 [1] [0] [0] [1] [] []
  dot_S10000x10_S10x10000_S10000x10000_1_0_0_1_n_n_wf : DotDims.WF S10000x10 S10x10000 S10000x10000 [1] [0] [0] [1] [] []

variable [Facts]

def gather_S10000x10_S10000x1_S10000x10_1_0_n_n_0_1_110 : GatherDims S10000x10 S10000x1 S10000x10 where
  offsetDims := [1]
  collapsedSliceDims := [0]
  operandBatchingDims := []
  startIndicesBatchingDims := []
  startIndexMap := [0]
  indexVectorDim := 1
  sliceSizes := ![1, 10]
  wf := gather_S10000x10_S10000x1_S10000x10_1_0_n_n_0_1_110_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def dot_S10000x10_S10x10000_S10000x10000_1_0_0_1_n_n : DotDims S10000x10 S10x10000 S10000x10000 where
  lhsContracting := [1]
  rhsContracting := [0]
  lhsNonContracting := [0]
  rhsNonContracting := [1]
  lhsBatch := []
  rhsBatch := []
  wf := dot_S10000x10_S10x10000_S10000x10000_1_0_0_1_n_n_wf
def fn_part3 {F : FTy → Type} [FloatOps F] (main_values : FVec F S10000x16 .f32) (main_indices : IVec S10000x16 32) (main_v53 : FVec F S10000 .f32) : IVec S10000x15 1 :=
  let main_cst_14 : FVec F S_ .f32 := constant S_ .f32 0x00000000#32
  let main_v54 : FVec F S10000 .f32 := broadcastInDim S10000 ![] bcast_S_S10000 main_cst_14
  let main_v55 : IVec S10000 1 := cmpf .ole main_v53 main_v54
  let main_v56 : FVec F S10000x15 .f32 := (extractStridedSlice S10000x15 ![0, 0] · slices_S10000x16_S10000x15_0_0) main_values
  let main_v57 : FVec F S10000x15 .f32 := (extractStridedSlice S10000x15 ![0, 1] · slices_S10000x16_S10000x15_0_1) main_values
  let main_v58 : IVec S10000x15 1 := cmpf .ogt main_v56 main_v57
  let main_v59 : IVec S10000x15 32 := (extractStridedSlice S10000x15 ![0, 0] · slices_S10000x16_S10000x15_0_0) main_indices
  let main_c_15 : IVec S_ 32 := constantI S_ 32 128#32
  let main_v60 : IVec S10000x15 32 := broadcastInDim S10000x15 ![] bcast_S_S10000x15 main_c_15
  let main_v61 : IVec S10000x15 32 := Host.remsi main_v59 main_v60
  let main_v62 : IVec S10000x15x15 32 := broadcastInDim S10000x15x15 ![0, 1] bcast_S10000x15_S10000x15x15_0_1 main_v61
  let main_v63 : IVec S10000x15x15 32 := broadcastInDim S10000x15x15 ![0, 2] bcast_S10000x15_S10000x15x15_0_2 main_v61
  let main_v64 : IVec S10000x15x15 1 := cmpi .eq main_v62 main_v63
  let main_v65 : IVec S10000x15x15 32 := (extui 32 · natLt_1_32) main_v64
  let main_c_16 : IVec S_ 32 := constantI S_ 32 0#32
  let main_v66 : IVec S10000x15 32 := (fun x v => Host.reduce IntOp.addi x v reducesTo_S10000x15x15_S10000x15_d2 h_S_) main_v65 main_c_16
  let main_c_17 : IVec S_ 32 := constantI S_ 32 8#32
  let main_v67 : IVec S10000x15 32 := broadcastInDim S10000x15 ![] bcast_S_S10000x15 main_c_17
  let main_v68 : IVec S10000x15 1 := cmpi .sle main_v66 main_v67
  let main_v69 : IVec S10000x15 1 := broadcastInDim S10000x15 ![0] bcast_S10000_S10000x15_0 main_v55
  let main_v70 : IVec S10000x15 1 := andi main_v58 main_v68
  let main_v71 : IVec S10000x15 1 := ori main_v69 main_v70
  main_v71

def fn_part2 {F : FTy → Type} [FloatOps F] (main_arg5 : FVec F S10x10 .f32) (main_v20 : FVec F S10000x10 .f32) (main_v33 : FVec F S10000x10 .f32) (main_v34 : IVec S10000x10 1) (main_cst_10 : FVec F S_ .f32) : IVec S10000x15 1 :=
  let main_v35 : FVec F S10000x10 .f32 := broadcastInDim S10000x10 ![] bcast_S_S10000x10 main_cst_10
  let main_v36 : FVec F S10000x10 .f32 := select main_v34 main_v33 main_v35
  let main_v37 : FVec F S10x10 .f32 := (transpose S10x10 [1, 0] · transposes_S10x10_S10x10_1_0) main_arg5
  let main_v38 : FVec F S10000x10 .f32 := (fun l r => Host.dotGeneral dot_S10000x10_S10x10_S10000x10_1_0_0_1_n_n none l r) main_v36 main_v37
  let main_cst_11 : FVec F S_ .f32 := constant S_ .f32 0x3F000000#32
  let main_v39 : FVec F S10000x10 .f32 := broadcastInDim S10000x10 ![] bcast_S_S10000x10 main_cst_11
  let main_v40 : FVec F S10000x10 .f32 := mulf main_v39 main_v38
  let main_v41 : FVec F S10000x10 .f32 := Host.tanh main_v40
  let main_v42 : FVec F S10x10000 .f32 := (transpose S10x10000 [1, 0] · transposes_S10000x10_S10x10000_1_0) main_v41
  let main_v43 : FVec F S10000x10000 .f32 := (fun l r => Host.dotGeneral dot_S10000x10_S10x10000_S10000x10000_1_0_0_1_n_n none l r) main_v20 main_v42
  let main_v44 : FVec F S10x10000 .f32 := (transpose S10x10000 [1, 0] · transposes_S10000x10_S10x10000_1_0) main_v20
  let main_v45 : FVec F S10000x10000 .f32 := (fun l r => Host.dotGeneral dot_S10000x10_S10x10000_S10000x10000_1_0_0_1_n_n none l r) main_v41 main_v44
  let main_v46 : FVec F S10000x10000 .f32 := subf main_v43 main_v45
  let main_cst_12 : FVec F S_ .f32 := constant S_ .f32 0x3F000000#32
  let main_v47 : FVec F S10000x10000 .f32 := broadcastInDim S10000x10000 ![] bcast_S_S10000x10000 main_cst_12
  let main_v48 : FVec F S10000x10000 .f32 := mulf main_v47 main_v46
  let main_v49 : FVec F S10000x10000 .f32 := Host.tanh main_v48
  let main_cst_13 : FVec F S_ .f32 := constant S_ .f32 0x00000000#32
  let main_v50 : FVec F S10000x10000 .f32 := broadcastInDim S10000x10000 ![] bcast_S_S10000x10000 main_cst_13
  let main_v51 : FVec F S10000x10000 .f32 := maximumf main_v49 main_v50
  let main_values : FVec F S10000x16 .f32 := (fun x => (Host.topK S10000x16 1 (FloatOps.cmpfTotal .gt) x sliceFits_S10000x10000_S10000x16).1) main_v51
  let main_indices : IVec S10000x16 32 := (fun x => (Host.topK S10000x16 1 (FloatOps.cmpfTotal .gt) x sliceFits_S10000x10000_S10000x16).2) main_v51
  let main_v52 : FVec F S10000x1 .f32 := (extractStridedSlice S10000x1 ![0, 15] · slices_S10000x16_S10000x1_0_15) main_values
  let main_v53 : FVec F S10000 .f32 := shapeCast S10000 main_v52 shapeCasts_S10000x1_S10000
  fn_part3 (F := F) main_values main_indices main_v53

def fn_part1 {F : FTy → Type} [FloatOps F] (main_arg1 : IVec S10000 32) (main_arg3 : FVec F S10000x10 .f32) (main_arg5 : FVec F S10x10 .f32) (main_v17 : FVec F S10000x10 .f32) : IVec S10000x15 1 :=
  let main_cst_4 : FVec F S_ .f32 := constant S_ .f32 0x3F000000#32
  let main_v18 : FVec F S10000x10 .f32 := broadcastInDim S10000x10 ![] bcast_S_S10000x10 main_cst_4
  let main_v19 : FVec F S10000x10 .f32 := mulf main_v18 main_v17
  let main_v20 : FVec F S10000x10 .f32 := Host.tanh main_v19
  let main_c_5 : IVec S_ 32 := constantI S_ 32 0#32
  let main_v21 : IVec S10000 32 := broadcastInDim S10000 ![] bcast_S_S10000 main_c_5
  let main_v22 : IVec S10000 1 := cmpi .slt main_arg1 main_v21
  let main_c_6 : IVec S_ 32 := constantI S_ 32 10000#32
  let main_v23 : IVec S10000 32 := broadcastInDim S10000 ![] bcast_S_S10000 main_c_6
  let main_v24 : IVec S10000 32 := addi main_arg1 main_v23
  let main_v25 : IVec S10000 32 := select main_v22 main_v24 main_arg1
  let main_v26 : IVec S10000x1 32 := broadcastInDim S10000x1 ![0] bcast_S10000_S10000x1_0 main_v25
  let main_c_7 : IVec S_ 32 := constantI S_ 32 0#32
  let main_v27 : IVec S10000x1 32 := broadcastInDim S10000x1 ![] bcast_S_S10000x1 main_c_7
  let main_v28 : IVec S10000x1 1 := cmpi .sge main_v26 main_v27
  let main_c_8 : IVec S_ 32 := constantI S_ 32 9999#32
  let main_v29 : IVec S10000x1 32 := broadcastInDim S10000x1 ![] bcast_S_S10000x1 main_c_8
  let main_v30 : IVec S10000x1 1 := cmpi .sle main_v26 main_v29
  let main_v31 : IVec S10000x1 1 := andi main_v28 main_v30
  let main_c_9 : IVec S_ 1 := constantI S_ 1 1#1
  let main_v32 : IVec S10000 1 := (fun x v => Host.reduce IntOp.andi x v reducesTo_S10000x1_S10000_d1 h_S_) main_v31 main_c_9
  let main_v33 : FVec F S10000x10 .f32 := (fun x i => Host.gather gather_S10000x10_S10000x1_S10000x10_1_0_n_n_0_1_110 x i) main_arg3 main_v26
  let main_v34 : IVec S10000x10 1 := broadcastInDim S10000x10 ![0] bcast_S10000_S10000x10_0 main_v32
  let main_cst_10 : FVec F S_ .f32 := constant S_ .f32 0x7FC00000#32
  fn_part2 (F := F) main_arg5 main_v20 main_v33 main_v34 main_cst_10

def fn {F : FTy → Type} [FloatOps F] (main_arg0 : FVec F S10000x128 .f32) (main_arg1 : IVec S10000 32) (main_arg2 : FVec F S10000x10 .f32) (main_arg3 : FVec F S10000x10 .f32) (main_arg4 : FVec F S10x10 .f32) (main_arg5 : FVec F S10x10 .f32) : IVec S10000x15 1 :=
  let main_c : IVec S_ 32 := constantI S_ 32 0#32
  let main_v0 : IVec S10000 32 := broadcastInDim S10000 ![] bcast_S_S10000 main_c
  let main_v1 : IVec S10000 1 := cmpi .slt main_arg1 main_v0
  let main_c_0 : IVec S_ 32 := constantI S_ 32 10000#32
  let main_v2 : IVec S10000 32 := broadcastInDim S10000 ![] bcast_S_S10000 main_c_0
  let main_v3 : IVec S10000 32 := addi main_arg1 main_v2
  let main_v4 : IVec S10000 32 := select main_v1 main_v3 main_arg1
  let main_v5 : IVec S10000x1 32 := broadcastInDim S10000x1 ![0] bcast_S10000_S10000x1_0 main_v4
  let main_c_1 : IVec S_ 32 := constantI S_ 32 0#32
  let main_v6 : IVec S10000x1 32 := broadcastInDim S10000x1 ![] bcast_S_S10000x1 main_c_1
  let main_v7 : IVec S10000x1 1 := cmpi .sge main_v5 main_v6
  let main_c_2 : IVec S_ 32 := constantI S_ 32 9999#32
  let main_v8 : IVec S10000x1 32 := broadcastInDim S10000x1 ![] bcast_S_S10000x1 main_c_2
  let main_v9 : IVec S10000x1 1 := cmpi .sle main_v5 main_v8
  let main_v10 : IVec S10000x1 1 := andi main_v7 main_v9
  let main_c_3 : IVec S_ 1 := constantI S_ 1 1#1
  let main_v11 : IVec S10000 1 := (fun x v => Host.reduce IntOp.andi x v reducesTo_S10000x1_S10000_d1 h_S_) main_v10 main_c_3
  let main_v12 : FVec F S10000x10 .f32 := (fun x i => Host.gather gather_S10000x10_S10000x1_S10000x10_1_0_n_n_0_1_110 x i) main_arg2 main_v5
  let main_v13 : IVec S10000x10 1 := broadcastInDim S10000x10 ![0] bcast_S10000_S10000x10_0 main_v11
  let main_cst : FVec F S_ .f32 := constant S_ .f32 0x7FC00000#32
  let main_v14 : FVec F S10000x10 .f32 := broadcastInDim S10000x10 ![] bcast_S_S10000x10 main_cst
  let main_v15 : FVec F S10000x10 .f32 := select main_v13 main_v12 main_v14
  let main_v16 : FVec F S10x10 .f32 := (transpose S10x10 [1, 0] · transposes_S10x10_S10x10_1_0) main_arg4
  let main_v17 : FVec F S10000x10 .f32 := (fun l r => Host.dotGeneral dot_S10000x10_S10x10_S10000x10_1_0_0_1_n_n none l r) main_v15 main_v16
  fn_part1 (F := F) main_arg1 main_arg3 main_arg5 main_v17
-- ==== Kernel.lean ====
abbrev S10000x128 : Shape := ⟨2, ![10000, 128]⟩
abbrev S10000 : Shape := ⟨1, ![10000]⟩
abbrev S10000x10 : Shape := ⟨2, ![10000, 10]⟩
abbrev S10x10 : Shape := ⟨2, ![10, 10]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10x10000 : Shape := ⟨2, ![10, 10000]⟩
abbrev S10000x10000 : Shape := ⟨2, ![10000, 10000]⟩
abbrev S200x10 : Shape := ⟨2, ![200, 10]⟩
abbrev S200x10000 : Shape := ⟨2, ![200, 10000]⟩
abbrev S200x20 : Shape := ⟨2, ![200, 20]⟩
abbrev S20x10000 : Shape := ⟨2, ![20, 10000]⟩
abbrev S200x128 : Shape := ⟨2, ![200, 128]⟩
abbrev S200x16 : Shape := ⟨2, ![200, 16]⟩
abbrev S200x112 : Shape := ⟨2, ![200, 112]⟩
abbrev S200 : Shape := ⟨1, ![200]⟩
abbrev S200x1 : Shape := ⟨2, ![200, 1]⟩

abbrev nBuf : Space → Nat
  | .hbm => 55
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000, .i32⟩
  | .hbm, ⟨2, _⟩ => ⟨S10000x10, .f32⟩
  | .hbm, ⟨3, _⟩ => ⟨S10000x10, .f32⟩
  | .hbm, ⟨4, _⟩ => ⟨S10x10, .f32⟩
  | .hbm, ⟨5, _⟩ => ⟨S10x10, .f32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S10000x1, .i32⟩
  | .hbm, ⟨14, _⟩ => ⟨S1, .i32⟩
  | .hbm, ⟨15, _⟩ => ⟨S_, .i32⟩
  | .hbm, ⟨16, _⟩ => ⟨S10000x1, .i32⟩
  | .hbm, ⟨17, _⟩ => ⟨S10000x1, .i1⟩
  | .hbm, ⟨18, _⟩ => ⟨S1x1, .i32⟩
  | .hbm, ⟨19, _⟩ => ⟨S10000x1, .i32⟩
  | .hbm, ⟨20, _⟩ => ⟨S10000x1, .i1⟩
  | .hbm, ⟨21, _⟩ => ⟨S10000x1, .i1⟩
  | .hbm, ⟨22, _⟩ => ⟨S_, .i1⟩
  | .hbm, ⟨23, _⟩ => ⟨S10000, .i1⟩
  | .hbm, ⟨24, _⟩ => ⟨S10000x10, .f32⟩
  | .hbm, ⟨25, _⟩ => ⟨S10000x10, .i1⟩
  | .hbm, ⟨26, _⟩ => ⟨S_, .f32⟩
  | .hbm, ⟨27, _⟩ => ⟨S10000x10, .f32⟩
  | .hbm, ⟨28, _⟩ => ⟨S10000x10, .f32⟩
  | .hbm, ⟨29, _⟩ => ⟨S_, .i32⟩
  | .hbm, ⟨30, _⟩ => ⟨S10000, .i32⟩
  | .hbm, ⟨31, _⟩ => ⟨S10000, .i1⟩
  | .hbm, ⟨32, _⟩ => ⟨S_, .i32⟩
  | .hbm, ⟨33, _⟩ => ⟨S10000, .i32⟩
  | .hbm, ⟨34, _⟩ => ⟨S10000, .i32⟩
  | .hbm, ⟨35, _⟩ => ⟨S10000, .i32⟩
  | .hbm, ⟨36, _⟩ => ⟨S10000x1, .i32⟩
  | .hbm, ⟨37, _⟩ => ⟨S1, .i32⟩
  | .hbm, ⟨38, _⟩ => ⟨S_, .i32⟩
  | .hbm, ⟨39, _⟩ => ⟨S10000x1, .i32⟩
  | .hbm, ⟨40, _⟩ => ⟨S10000x1, .i1⟩
  | .hbm, ⟨41, _⟩ => ⟨S1x1, .i32⟩
  | .hbm, ⟨42, _⟩ => ⟨S10000x1, .i32⟩
  | .hbm, ⟨43, _⟩ => ⟨S10000x1, .i1⟩
  | .hbm, ⟨44, _⟩ => ⟨S10000x1, .i1⟩
  | .hbm, ⟨45, _⟩ => ⟨S_, .i1⟩
  | .hbm, ⟨46, _⟩ => ⟨S10000, .i1⟩
  | .hbm, ⟨47, _⟩ => ⟨S10000x10, .f32⟩
  | .hbm, ⟨48, _⟩ => ⟨S10000x10, .i1⟩
  | .hbm, ⟨49, _⟩ => ⟨S_, .f32⟩
  | .hbm, ⟨50, _⟩ => ⟨S10000x10, .f32⟩
  | .hbm, ⟨51, _⟩ => ⟨S10000x10, .f32⟩
  | .hbm, ⟨52, _⟩ => ⟨S10x10000, .f32⟩
  | .hbm, ⟨53, _⟩ => ⟨S10x10000, .f32⟩
  | .hbm, ⟨54, _⟩ => ⟨S10000x10000, .f32⟩
  | .local _ .vmem, ⟨0, _⟩ => ⟨S200x10, .f32⟩
  | .local _ .vmem, ⟨1, _⟩ => ⟨S200x10, .f32⟩
  | .local _ .vmem, ⟨2, _⟩ => ⟨S200x10, .f32⟩
  | .local _ .vmem, ⟨3, _⟩ => ⟨S200x10, .f32⟩
  | .local _ .vmem, ⟨4, _⟩ => ⟨S10x10000, .f32⟩
  | .local _ .vmem, ⟨5, _⟩ => ⟨S10x10000, .f32⟩
  | .local _ .vmem, ⟨6, _⟩ => ⟨S10x10, .f32⟩
  | .local _ .vmem, ⟨7, _⟩ => ⟨S10x10, .f32⟩
  | .local _ .vmem, ⟨8, _⟩ => ⟨S200x10000, .f32⟩
  | .local _ .vmem, ⟨9, _⟩ => ⟨S200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c14_i32 : BitVec 32 := 14#32
  let v771 : BitVec 32 := Scalar.addi c0_i32 c14_i32
  let c1_i32 : BitVec 32 := 1#32
  ⟨c0_i32, v771, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x128 : Shape := ⟨2, ![10000, 128]⟩
abbrev S10000 : Shape := ⟨1, ![10000]⟩
abbrev S10000x10 : Shape := ⟨2, ![10000, 10]⟩
abbrev S10x10 : Shape := ⟨2, ![10, 10]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10x10000 : Shape := ⟨2, ![10, 10000]⟩
abbrev S10000x10000 : Shape := ⟨2, ![10000, 10000]⟩
abbrev S10000x15 : Shape := ⟨2, ![10000, 15]⟩
abbrev S10000x15x1 : Shape := ⟨3, ![10000, 15, 1]⟩
abbrev S10000x15x2 : Shape := ⟨3, ![10000, 15, 2]⟩

abbrev nBuf : Space → Nat
  | .hbm => 112
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .i32⟩
  | .hbm, ⟨2, _⟩ => ⟨S10000x10, .f32⟩
  | .hbm, ⟨3, _⟩ => ⟨S10000x10, .f32⟩
  | .hbm, ⟨4, _⟩ => ⟨S10x10, .f32⟩
  | .hbm, ⟨5, _⟩ => ⟨S10x10, .f32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S10000x1, .i32⟩
  | .hbm, ⟨14, _⟩ => ⟨S1, .i32⟩
  | .hbm, ⟨15, _⟩ => ⟨S_, .i32⟩
  | .hbm, ⟨16, _⟩ => ⟨S10000x1, .i32⟩
  | .hbm, ⟨17, _⟩ => ⟨S10000x1, .i1⟩
  | .hbm, ⟨18, _⟩ => ⟨S1x1, .i32⟩
  | .hbm, ⟨19, _⟩ => ⟨S10000x1, .i32⟩
  | .hbm, ⟨20, _⟩ => ⟨S10000x1, .i1⟩
  | .hbm, ⟨21, _⟩ => ⟨S10000x1, .i1⟩
  | .hbm, ⟨22, _⟩ => ⟨S_, .i1⟩
  | .hbm, ⟨23, _⟩ => ⟨S10000, .i1⟩
  | .hbm, ⟨24, _⟩ => ⟨S10000x10, .f32⟩
  | .hbm, ⟨25, _⟩ => ⟨S10000x10, .i1⟩
  | .hbm, ⟨26, _⟩ => ⟨S_, .f32⟩
  | .hbm, ⟨27, _⟩ => ⟨S10000x10, .f32⟩
  | .hbm, ⟨28, _⟩ => ⟨S10000x10, .f32⟩
  | .hbm, ⟨29, _⟩ => ⟨S_, .i32⟩
  | .hbm, ⟨30, _⟩ => ⟨S10000, .i32⟩
  | .hbm, ⟨31, _⟩ => ⟨S10000, .i1⟩
  | .hbm, ⟨32, _⟩ => ⟨S_, .i32⟩
  | .hbm, ⟨33, _⟩ => ⟨S10000, .i32⟩
  | .hbm, ⟨34, _⟩ => ⟨S10000, .i32⟩
  | .hbm, ⟨35, _⟩ => ⟨S10000, .i32⟩
  | .hbm, ⟨36, _⟩ => ⟨S10000x1, .i32⟩
  | .hbm, ⟨37, _⟩ => ⟨S1, .i32⟩
  | .hbm, ⟨38, _⟩ => ⟨S_, .i32⟩
  | .hbm, ⟨39, _⟩ => ⟨S10000x1, .i32⟩
  | .hbm, ⟨40, _⟩ => ⟨S10000x1, .i1⟩
  | .hbm, ⟨41, _⟩ => ⟨S1x1, .i32⟩
  | .hbm, ⟨42, _⟩ => ⟨S10000x1, .i32⟩
  | .hbm, ⟨43, _⟩ => ⟨S10000x1, .i1⟩
  | .hbm, ⟨44, _⟩ => ⟨S10000x1, .i1⟩
  | .hbm, ⟨45, _⟩ => ⟨S_, .i1⟩
  | .hbm, ⟨46, _⟩ => ⟨S10000, .i1⟩
  | .hbm, ⟨47, _⟩ => ⟨S10000x10, .f32⟩
  | .hbm, ⟨48, _⟩ => ⟨S10000x10, .i1⟩
  | .hbm, ⟨49, _⟩ => ⟨S_, .f32⟩
  | .hbm, ⟨50, _⟩ => ⟨S10000x10, .f32⟩
  | .hbm, ⟨51, _⟩ => ⟨S10000x10, .f32⟩
  | .hbm, ⟨52, _⟩ => ⟨S10x10, .f32⟩
  | .hbm, ⟨53, _⟩ => ⟨S10000x10, .f32⟩
  | .hbm, ⟨54, _⟩ => ⟨S_, .f32⟩
  | .hbm, ⟨55, _⟩ => ⟨S10000x10, .f32⟩
  | .hbm, ⟨56, _⟩ => ⟨S10000x10, .f32⟩
  | .hbm, ⟨57, _⟩ => ⟨S10000x10, .f32⟩
  | .hbm, ⟨58, _⟩ => ⟨S10x10, .f32⟩
  | .hbm, ⟨59, _⟩ => ⟨S10000x10, .f32⟩
  | .hbm, ⟨60, _⟩ => ⟨S_, .f32⟩
  | .hbm, ⟨61, _⟩ => ⟨S10000x10, .f32⟩
  | .hbm, ⟨62, _⟩ => ⟨S10000x10, .f32⟩
  | .hbm, ⟨63, _⟩ => ⟨S10000x10, .f32⟩
  | .hbm, ⟨64, _⟩ => ⟨S10x10000, .f32⟩
  | .hbm, ⟨65, _⟩ => ⟨S10000x10000, .f32⟩
  | .hbm, ⟨66, _⟩ => ⟨S10x10000, .f32⟩
  | .hbm, ⟨67, _⟩ => ⟨S10000x10000, .f32⟩
  | .hbm, ⟨68, _⟩ => ⟨S10000x10000, .f32⟩
  | .hbm, ⟨69, _⟩ => ⟨S_, .f32⟩
  | .hbm, ⟨70, _⟩ => ⟨S10000x10000, .f32⟩
  | .hbm, ⟨71, _⟩ => ⟨S10000x10000, .f32⟩
  | .hbm, ⟨72, _⟩ => ⟨S10000x10000, .f32⟩
  | .hbm, ⟨73, _⟩ => ⟨S_, .f32⟩
  | .hbm, ⟨74, _⟩ => ⟨S10000x10000, .f32⟩
  | .hbm, ⟨75, _⟩ => ⟨S10000x10000, .f32⟩
  | .hbm, ⟨76, _⟩ => ⟨S10000x15, .f32⟩
  | .hbm, ⟨77, _⟩ => ⟨S10000x15, .i32⟩
  | .hbm, ⟨78, _⟩ => ⟨S10000, .i32⟩
  | .hbm, ⟨79, _⟩ => ⟨S10000x1, .i32⟩
  | .hbm, ⟨80, _⟩ => ⟨S_, .f32⟩
  | .hbm, ⟨81, _⟩ => ⟨S10000x10000, .f32⟩
  | .hbm, ⟨82, _⟩ => ⟨S_, .i32⟩
  | .hbm, ⟨83, _⟩ => ⟨S10000x1, .i32⟩
  | .hbm, ⟨84, _⟩ => ⟨S10000x1, .i1⟩
  | .hbm, ⟨85, _⟩ => ⟨S_, .i32⟩
  | .hbm, ⟨86, _⟩ => ⟨S10000x1, .i32⟩
  | .hbm, ⟨87, _⟩ => ⟨S10000x1, .i32⟩
  | .hbm, ⟨88, _⟩ => ⟨S10000x1, .i32⟩
  | .hbm, ⟨89, _⟩ => ⟨S_, .i32⟩
  | .hbm, ⟨90, _⟩ => ⟨S10000x15, .i32⟩
  | .hbm, ⟨91, _⟩ => ⟨S10000x15, .i1⟩
  | .hbm, ⟨92, _⟩ => ⟨S_, .i32⟩
  | .hbm, ⟨93, _⟩ => ⟨S10000x15, .i32⟩
  | .hbm, ⟨94, _⟩ => ⟨S10000x15, .i32⟩
  | .hbm, ⟨95, _⟩ => ⟨S10000x15, .i32⟩
  | .hbm, ⟨96, _⟩ => ⟨S10000x15, .i32⟩
  | .hbm, ⟨97, _⟩ => ⟨S10000x15x1, .i32⟩
  | .hbm, ⟨98, _⟩ => ⟨S10000x15x1, .i32⟩
  | .hbm, ⟨99, _⟩ => ⟨S10000x15x2, .i32⟩
  | .hbm, ⟨100, _⟩ => ⟨S_, .f32⟩
  | .hbm, ⟨101, _⟩ => ⟨S10000x15, .f32⟩
  | .hbm, ⟨102, _⟩ => ⟨S10000x10000, .f32⟩
  | .hbm, ⟨103, _⟩ => ⟨S10000x10000, .f32⟩
  | .hbm, ⟨104, _⟩ => ⟨S10000x10000, .i32⟩
  | .hbm, ⟨105, _⟩ => ⟨S10000x10000, .i32⟩
  | .hbm, ⟨106, _⟩ => ⟨S_, .i32⟩
  | .hbm, ⟨107, _⟩ => ⟨S10000x10000, .i32⟩
  | .hbm, ⟨108, _⟩ => ⟨S10000x10000, .i32⟩
  | .hbm, ⟨109, _⟩ => ⟨S10000x10000, .i1⟩
  | .hbm, ⟨110, _⟩ => ⟨S10000x10000, .f32⟩
  | .hbm, ⟨111, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_cst : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_1 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_call2_cst : Ref sig .tc := ⟨.hbm, 73, rfl⟩
abbrev main_call2_v0 : Ref sig .tc := ⟨.hbm, 74, rfl⟩
abbrev main_v20 : Ref sig .tc := ⟨.hbm, 75, rfl⟩
abbrev main_values : Ref sig .tc := ⟨.hbm, 76, rfl⟩
abbrev main_indices : Ref sig .tc := ⟨.hbm, 77, rfl⟩
abbrev main_v21 : Ref sig .tc := ⟨.hbm, 78, rfl⟩
abbrev main_v22 : Ref sig .tc := ⟨.hbm, 79, rfl⟩
abbrev main_cst_2 : Ref sig .tc := ⟨.hbm, 80, rfl⟩
abbrev main_v23 : Ref sig .tc := ⟨.hbm, 81, rfl⟩
abbrev main_c : Ref sig .tc := ⟨.hbm, 82, rfl⟩
abbrev main_v24 : Ref sig .tc := ⟨.hbm, 83, rfl⟩
abbrev main_v25 : Ref sig .tc := ⟨.hbm, 84, rfl⟩
abbrev main_c_3 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_c_4 : Ref sig .tc := ⟨.hbm, 89, rfl⟩
abbrev main_v29 : Ref sig .tc := ⟨.hbm, 90, rfl⟩
abbrev main_v30 : Ref sig .tc := ⟨.hbm, 91, rfl⟩
abbrev main_c_5 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_6 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_c_7 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩

abbrev nD : Nat := 1
abbrev τ : Topo := Topo.v7x

variable {F : FTy → Type} [FloatOps F]
-- ==== Proof.Network.lean ====
module

public import Mathlib.Data.Fin.Tuple.Basic
public import Mathlib.Algebra.BigOperators.Fin
public import Mathlib.Data.EReal.Basic
public import Mathlib.Tactic.IntervalCases

/-! # The comparator networks that keep the eight largest of eighty values

Eight wires, the layers of comparators that sort them, the layers that merge two sorted groups, and the count
of wires a monotone test accepts after the whole tree. -/

@[expose] public section

namespace Cert.Proof

/-- Eight wires. -/
structure Oct (α : Type*) where
  w0 : α
  w1 : α
  w2 : α
  w3 : α
  w4 : α
  w5 : α
  w6 : α
  w7 : α

namespace Oct

variable {α β : Type*}

/-- A function applied to every wire. -/
def map (f : α → β) (a : Oct α) : Oct β :=
  ⟨f a.w0, f a.w1, f a.w2, f a.w3, f a.w4, f a.w5, f a.w6, f a.w7⟩

/-- The wire of a number below eight. -/
def get (a : Oct α) : Fin 8 → α := ![a.w0, a.w1, a.w2, a.w3, a.w4, a.w5, a.w6, a.w7]

variable (mx mn : α → α → α)

/-- Comparators between wires one apart: (0,1), (2,3), (4,5), (6,7). -/
def by1 (a : Oct α) : Oct α :=
  ⟨mx a.w0 a.w1, mn a.w0 a.w1, mx a.w2 a.w3, mn a.w2 a.w3, mx a.w4 a.w5, mn a.w4 a.w5, mx a.w6 a.w7, mn a.w6 a.w7⟩

/-- Comparators between wires two apart: (0,2), (1,3), (4,6), (5,7). -/
def by2 (a : Oct α) : Oct α :=
  ⟨mx a.w0 a.w2, mx a.w1 a.w3, mn a.w0 a.w2, mn a.w1 a.w3, mx a.w4 a.w6, mx a.w5 a.w7, mn a.w4 a.w6, mn a.w5 a.w7⟩

/-- Comparators between wires four apart: (0,4), (1,5), (2,6), (3,7). -/
def by4 (a : Oct α) : Oct α :=
  ⟨mx a.w0 a.w4, mx a.w1 a.w5, mx a.w2 a.w6, mx a.w3 a.w7, mn a.w0 a.w4, mn a.w1 a.w5, mn a.w2 a.w6, mn a.w3 a.w7⟩

/-- The comparators (1,2) and (5,6). -/
def mid2 (a : Oct α) : Oct α :=
  ⟨a.w0, mx a.w1 a.w2, mn a.w1 a.w2, a.w3, a.w4, mx a.w5 a.w6, mn a.w5 a.w6, a.w7⟩

/-- The comparators (2,4) and (3,5). -/
def mid4 (a : Oct α) : Oct α :=
  ⟨a.w0, a.w1, mx a.w2 a.w4, mx a.w3 a.w5, mn a.w2 a.w4, mn a.w3 a.w5, a.w6, a.w7⟩

/-- The comparators (1,2), (3,4) and (5,6). -/
def mid1 (a : Oct α) : Oct α :=
  ⟨a.w0, mx a.w1 a.w2, mn a.w1 a.w2, mx a.w3 a.w4, mn a.w3 a.w4, mx a.w5 a.w6, mn a.w5 a.w6, a.w7⟩

/-- The network that sorts eight wires, largest first. -/
def sort (a : Oct α) : Oct α :=
  mid1 mx mn (mid4 mx mn (by4 mx mn (mid2 mx mn (by2 mx mn (by1 mx mn a)))))

/-- The larger of each wire of one group and the opposite wire of the other. -/
def half (a b : Oct α) : Oct α :=
  ⟨mx a.w0 b.w7, mx a.w1 b.w6, mx a.w2 b.w5, mx a.w3 b.w4, mx a.w4 b.w3, mx a.w5 b.w2, mx a.w6 b.w1, mx a.w7 b.w0⟩

/-- The eight largest of two sorted groups, sorted again. -/
def merge (a b : Oct α) : Oct α :=
  by1 mx mn (by2 mx mn (by4 mx mn (half mx a b)))

/-- The whole tree over ten groups of eight: eight sorted groups merged pairwise in three rounds, two more merged once, and
    the larger halves of the two results. -/
def keep (g0 g1 g2 g3 g4 g5 g6 g7 g8 g9 : Oct α) : Oct α :=
  half mx
    (merge mx mn
      (merge mx mn (merge mx mn (sort mx mn g0) (sort mx mn g1)) (merge mx mn (sort mx mn g2) (sort mx mn g3)))
      (merge mx mn (merge mx mn (sort mx mn g4) (sort mx mn g5)) (merge mx mn (sort mx mn g6) (sort mx mn g7))))
    (merge mx mn (sort mx mn g8) (sort mx mn g9))

section Hom

variable {mx mn} {mx' mn' : β → β → β} {p : α → β}

/-- A map that respects the two operations passes through `sort`. -/
theorem map_sort (hx : ∀ a b, p (mx a b) = mx' (p a) (p b)) (hn : ∀ a b, p (mn a b) = mn' (p a) (p b)) (a : Oct α) :
    (sort mx mn a).map p = sort mx' mn' (a.map p) := by
  simp only [map, sort, by1, by2, by4, mid1, mid2, mid4, hx, hn]

/-- It passes through `half`. -/
theorem map_half (hx : ∀ a b, p (mx a b) = mx' (p a) (p b)) (a b : Oct α) :
    (half mx a b).map p = half mx' (a.map p) (b.map p) := by
  simp only [map, half, hx]

/-- It passes through `merge`. -/
theorem map_merge (hx : ∀ a b, p (mx a b) = mx' (p a) (p b)) (hn : ∀ a b, p (mn a b) = mn' (p a) (p b)) (a b : Oct α) :
    (merge mx mn a b).map p = merge mx' mn' (a.map p) (b.map p) := by
  simp only [map, merge, half, by1, by2, by4, hx, hn]

/-- It passes through the whole tree. -/
theorem map_keep (hx : ∀ a b, p (mx a b) = mx' (p a) (p b)) (hn : ∀ a b, p (mn a b) = mn' (p a) (p b))
    (g0 g1 g2 g3 g4 g5 g6 g7 g8 g9 : Oct α) :
    (keep mx mn g0 g1 g2 g3 g4 g5 g6 g7 g8 g9).map p
      = keep mx' mn' (g0.map p) (g1.map p) (g2.map p) (g3.map p) (g4.map p) (g5.map p) (g6.map p) (g7.map p) (g8.map p)
          (g9.map p) := by
  simp only [keep, map_half hx, map_merge hx hn, map_sort hx hn]

end Hom

/-- How many wires hold true. -/
def count (a : Oct Bool) : ℕ :=
  a.w0.toNat + a.w1.toNat + a.w2.toNat + a.w3.toNat + a.w4.toNat + a.w5.toNat + a.w6.toNat + a.w7.toNat

/-- The sorted wires with `n` of them true. -/
def thr (n : ℕ) : Oct Bool :=
  ⟨decide (0 < n), decide (1 < n), decide (2 < n), decide (3 < n), decide (4 < n), decide (5 < n), decide (6 < n),
    decide (7 < n)⟩

/-- No more than eight of eight are true. -/
theorem count_le (a : Oct Bool) : a.count ≤ 8 := by
  have h (b : Bool) : b.toNat ≤ 1 := Bool.toNat_le b
  have := h a.w0; have := h a.w1; have := h a.w2; have := h a.w3
  have := h a.w4; have := h a.w5; have := h a.w6; have := h a.w7
  unfold count; omega

/-- The sorting network sorts truth values. -/
theorem sort_bool (a : Oct Bool) : sort or and a = thr a.count := by
  obtain ⟨a0, a1, a2, a3, a4, a5, a6, a7⟩ := a
  revert a0 a1 a2 a3 a4 a5 a6 a7
  have h : ∀ a0 a1 a2 a3 a4 a5 a6 a7 : Bool,
      ((sort or and ⟨a0, a1, a2, a3, a4, a5, a6, a7⟩).get) = (thr (count ⟨a0, a1, a2, a3, a4, a5, a6, a7⟩)).get := by
    decide +kernel
  intro a0 a1 a2 a3 a4 a5 a6 a7
  have := h a0 a1 a2 a3 a4 a5 a6 a7
  have e (x y : Oct Bool) (h : x.get = y.get) : x = y := by
    obtain ⟨x0, x1, x2, x3, x4, x5, x6, x7⟩ := x
    obtain ⟨y0, y1, y2, y3, y4, y5, y6, y7⟩ := y
    have h0 := congrFun h 0; have h1 := congrFun h 1; have h2 := congrFun h 2; have h3 := congrFun h 3
    have h4 := congrFun h 4; have h5 := congrFun h 5; have h6 := congrFun h 6; have h7 := congrFun h 7
    simp only [get, Matrix.cons_val] at h0 h1 h2 h3 h4 h5 h6 h7
    subst h0 h1 h2 h3 h4 h5 h6 h7; rfl
  exact e _ _ this

/-- Merging sorted truth values gives the sorted truth values of the capped sum. -/
theorem merge_bool {a b : ℕ} (ha : a ≤ 8) (hb : b ≤ 8) : merge or and (thr a) (thr b) = thr (min 8 (a + b)) := by
  interval_cases a <;> interval_cases b <;> rfl

/-- The larger half of two sorted groups of truth values has the capped sum true. -/
theorem half_bool {a b : ℕ} (ha : a ≤ 8) (hb : b ≤ 8) : (half or (thr a) (thr b)).count = min 8 (a + b) := by
  interval_cases a <;> interval_cases b <;> rfl

/-- The tree over truth values keeps as many true as there are, up to eight. -/
theorem keep_bool (g0 g1 g2 g3 g4 g5 g6 g7 g8 g9 : Oct Bool) :
    (keep or and g0 g1 g2 g3 g4 g5 g6 g7 g8 g9).count
      = min 8 (g0.count + g1.count + g2.count + g3.count + g4.count + g5.count + g6.count + g7.count + g8.count
          + g9.count) := by
  unfold keep
  have c := count_le
  simp only [sort_bool]
  rw [merge_bool (c g0) (c g1), merge_bool (c g2) (c g3), merge_bool (c g4) (c g5), merge_bool (c g6) (c g7),
    merge_bool (c g8) (c g9), merge_bool (by omega) (by omega), merge_bool (by omega) (by omega),
    merge_bool (by omega) (by omega), half_bool (by omega) (by omega)]
  omega

/-- The group of eight entries of a family of eighty that starts at `8 g`. -/
def group (x : Fin 80 → α) (g : Fin 10) : Oct α :=
  ⟨x ⟨8 * g.val, by omega⟩, x ⟨8 * g.val + 1, by omega⟩, x ⟨8 * g.val + 2, by omega⟩, x ⟨8 * g.val + 3, by omega⟩,
    x ⟨8 * g.val + 4, by omega⟩, x ⟨8 * g.val + 5, by omega⟩, x ⟨8 * g.val + 6, by omega⟩, x ⟨8 * g.val + 7, by omega⟩⟩

/-- The tree over eighty entries. -/
def keepAll (x : Fin 80 → α) : Oct α :=
  keep mx mn (group x 0) (group x 1) (group x 2) (group x 3) (group x 4) (group x 5) (group x 6) (group x 7) (group x 8)
    (group x 9)

/-- Summing over eighty entries group by group. -/
theorem sum_groups (n : Fin 80 → ℕ) :
    ∑ j, n j = ∑ g : Fin 10, ∑ k : Fin 8, n ⟨8 * g.val + k.val, by omega⟩ := by
  rw [← Equiv.sum_comp (finProdFinEquiv (m := 10) (n := 8)), Fintype.sum_prod_type]
  refine Finset.sum_congr rfl fun g _ => Finset.sum_congr rfl fun k _ => ?_
  congr 1; apply Fin.ext; simp only [finProdFinEquiv_apply_val]; omega

/-- A sum over ten indices, term by term. -/
theorem sum_ten (n : Fin 10 → ℕ) : ∑ g, n g = n 0 + n 1 + n 2 + n 3 + n 4 + n 5 + n 6 + n 7 + n 8 + n 9 := by
  rw [Fin.sum_univ_castSucc, Fin.sum_univ_castSucc, Fin.sum_univ_eight]
  rfl

/-- For every test that respects larger and smaller, the kept eight hold as many accepted entries as the eighty do, up to
    eight. -/
theorem keepAll_count {α : Type*} {mx mn : α → α → α} (p : α → Bool) (hx : ∀ a b, p (mx a b) = (p a || p b))
    (hn : ∀ a b, p (mn a b) = (p a && p b)) (x : Fin 80 → α) :
    ∑ k, (p ((keepAll mx mn x).get k)).toNat = min 8 (∑ j, (p (x j)).toNat) := by
  have e (a : Oct α) : ∑ k, (p (a.get k)).toNat = (a.map p).count := by
    rw [Fin.sum_univ_eight]; rfl
  rw [e, keepAll, map_keep hx hn, keep_bool, sum_groups]
  have g (i : Fin 10) : ((group x i).map p).count = ∑ k : Fin 8, (p (x ⟨8 * i.val + k.val, by omega⟩)).toNat := by
    rw [Fin.sum_univ_eight]; rfl
  rw [g 0, g 1, g 2, g 3, g 4, g 5, g 6, g 7, g 8, g 9,
    sum_ten fun g : Fin 10 => ∑ k : Fin 8, (p (x ⟨8 * g.val + k.val, by omega⟩)).toNat]

end Oct

end Cert.Proof

end
-- ==== Proof.Wires.lean ====
module

public import proofs.«01_k».proof.Proof.Gen.KernelIdeal.Value
public import proofs.«01_k».proof.Proof.Network

/-! # The kernel's comparator tree

The vectors the kernel body names on its way from the score block to the eight kept vectors, group by group and merge by merge,
are the layers of `Oct.sort` and `Oct.merge`; the block the body leaves is the last selection over them. -/

@[expose] public section

noncomputable section

namespace Cert.Proof

open Idealize.ShloMosaic Idealize.ShloMosaic.Tactic Cert.KernelIdeal Cert.KernelIdeal.Gen
open Cert.KernelIdeal.Gen.kernelRun0_A.sl

variable {F : FTy → Type} [FloatOps F]

/-- The largest entry of every row over eight vectors. -/
def startOf (t : Oct (FVec F S200x128 .f32)) : FVec F S200x1 .f32 :=
  shapeCast S200x1 (multiReduction .maximumf [1] S200
    (maximumf (maximumf (maximumf (maximumf (maximumf (maximumf (maximumf t.w0 t.w1) t.w2) t.w3) t.w4) t.w5) t.w6) t.w7)
    0xFF800000#32 reduces_S200x128_S200 (.inl rfl) rfl) shapeCasts_S200_S200x1

/-- A vector's entries below their row's bound, and −1 for the others. -/
def belowOf (m : FVec F S200x1 .f32) (t : FVec F S200x128 .f32) : FVec F S200x128 .f32 :=
  select (cmpf .olt t (broadcastTo S200x128 m broadcasts_S200x1_S200x128)) t
    (broadcast S200x128 (Scalar.ofBits .f32 0xBF800000#32))

/-- A round: the largest entry of every row below its bound. -/
def roundOf (t : Oct (FVec F S200x128 .f32)) (m : FVec F S200x1 .f32) : FVec F S200x1 .f32 :=
  startOf (t.map (belowOf m))

variable (c : Dev nD)
  (a1 : Memref sig .tc .vmem S200x10 .f32) (h1 : a1.IsWhole) (a2 : Memref sig .tc .vmem S200x10 .f32) (h2 : a2.IsWhole)
  (a3 : Memref sig .tc .vmem S10x10000 .f32) (h3 : a3.IsWhole) (a4 : Memref sig .tc .vmem S10x10000 .f32) (h4 : a4.IsWhole)
  (a5 : Memref sig .tc .vmem S10x10 .f32) (h5 : a5.IsWhole) (a6 : Memref sig .tc .vmem S10x10 .f32) (h6 : a6.IsWhole)
  (a7 : Memref sig .tc .vmem S200x10000 .f32) (h7 : a7.IsWhole)
  (x0 : Vec F S200x10 .f32) (x1 : Vec F S200x10 .f32) (x2 : Vec F S10x10000 .f32) (x3 : Vec F S10x10000 .f32)
  (x4 : Vec F S10x10 .f32) (x5 : Vec F S10x10 .f32)

/-- Group 0: the eight wires after its sorting layers. -/
theorem sorted0 : (⟨r_81 c a1 h1 a2 h2 a3 h3 a4 h4 a5 h5 a6 h6 x0 x1 x2 x3 x4 x5,
      r_87 c a1 h1 a2 h2 a3 h3 a4 h4 a5 h5 a6 h6 x0 x1 x2 x3 x4 x5,
      r_88 c a1 h1 a2 h2 a3 h3 a4 h4 a5 h5 a6 h6 x0 x1 x2 x3 x4 x5,
      r_89 c a1 h1 a2 h2 a3 h3 a4 h4 a5 h5 a6 h6 x0 x1 x2 x3 x4 x5,
      r_90 c a1 h1 a2 h2 a3 h3 a4 h4 a5 h5 a6 h6 x0 x1 x2 x3 x4 x5,
      r_91 c a1 h1 a2 h2 a3 h3 a4 h4 a5 h5 a6 h6 x0 x1 x2 x3 x4 x5,
      r_92 c a1 h1 a2 h2 a3 h3 a4 h4 a5 h5 a6 h6 x0 x1 x2 x3 x4 x5,
      r_83 c a1 h1 a2 h2 a3 h3 a4 h4 a5 h5 a6 h6 x0 x1 x2 x3 x4 x5⟩ : Oct (FVec F S200x128 .f32))
    = Oct.sort maximumf minimumf ⟨r_2 c a1 h1 a2 h2 a3 h3 a4 h4 a5 h5 a6 h6 x0 x1 x2 x3 x4 x5,
      r_3 c a1 h1 a2 h2 a3 h3 a4 h4 a5 h5 a6 h6 x0 x1 x2 x3 x4 x5,
      r_4 c a1 h1 a2 h2 a3 h3 a4 h4 a5 h5 a6 h6 x0 x1 x2 x3 x4 x5,
      r_5 c a1 h1 a2 h2 a3 h3 a4 h4 a5 h5 a6 h6 x0 x1 x2 x3 x4 x5,
      r_6 c a1 h1 a2 h2 a3 h3 a4 h4 a5 h5 a6 h6 x0 x1 x2 x3 x4 x5,
      r_7 c a1 h1 a2 h2 a3 h3 a4 h4 a5 h5 a6 h6 x0 x1 x2 x3 x4 x5,
      r_8 c a1 h1 a2 h2 a3 h3 a4 h4 a5 h5 a6 h6 x0 x1 x2 x3 x4 x5,
      r_9 c a1 h1 a2 h2 a3 h3 a4 h4 a5 h5 a6 h6 x0 x1 x2 x3 x4 x5⟩ := by
  rfl

/-- Group 1: the eight wires after its sorting layers. -/
theorem sorted1 : (⟨r_93 c a1 h1 a2 h2 a3 h3 a4 h4 a5 h5 a6 h6 x0 x1 x2 x3 x4 x5,
      r_95 c a1 h1 a2 h2 a3 h3 a4 h4 a5 h5 a6 h6 x0 x1 x2 x3 x4 x5,
      r_96 c a1 h1 a2 h2 a3 h3 a4 h4 a5 h5 a6 h6 x0 x1 x2 x3 x4 x5,
      r_97 c a1 h1 a2 h2 a3 h3 a4 h4 a5 h5 a6 h6 x0 x1 x2 x3 x4 x5,
      r_98 c a1 h1 a2 h2 a3 h3 a4 h4 a5 h5 a6 h6 x0 x1 x2 x3 x4 x5,
      r_99 c a1 h1 a2 h2 a3 h3 a4 h4 a5 h5 a6 h6 x0 x1 x2 x3 x4 x5,
      r_100 c a1 h1 a2 h2 a3 h3 a4 h4 a5 h5 a6 h6 x0 x1 x2 x3 x4 x5,
      r_94 c a1 h1 a2 h2 a3 h3 a4 h4 a5 h5 a6 h6 x0 x1 x2 x3 x4 x5⟩ : Oct (FVec F S200x128 .f32))
    = Oct.sort maximumf minimumf ⟨r_10 c a1 h1 a2 h2 a3 h3 a4 h4 a5 h5 a6 h6 x0 x1 x2 x3 x4 x5,
      r_11 c a1 h1 a2 h2 a3 h3 a4 h4 a5 h5 a6 h6 x0 x1 x2 x3 x4 x5,
      r_12 c a1 h1 a2 h2 a3 h3 a4 h4 a5 h5 a6 h6 x0 x1 x2 x3 x4 x5,
      r_13 c a1 h1 a2 h2 a3 h3 a4 h4 a5 h5 a6 h6 x0 x1 x2 x3 x4 x5,
      r_14 c a1 h1 a2 h2 a3 h3 a4 h4 a5 h5 a6 h6 x0 x1 x2 x3 x4 x5,
      r_15 c a1 h1 a2 h2 a3 h3 a4 h4 a5 h5 a6 h6 x0 x1 x2 x3 x4 x5,
      r_16 c a1 h1 a2 h2 a3 h3 a4 h4 a5 h5 a6 h6 x0 x1 x2 x3 x4 x5,
      r_17 c a1 h1 a2 h2 a3 h3 a4 h4 a5 h5 a6 h6 x0 x1 x2 x3 x4 x5⟩ := by
  rfl

/-- Group 2: the eight wires after its sorting layers. -/
theorem sorted2 : (⟨r_110 c a1 h1 a2 h2 a3 h3 a4 h4 a5 h5 a6 h6 x0 x1 x2 x3 x4 x5,
      r_112 c a1 h1 a2 h2 a3 h3 a4 h4 a5 h5 a6 h6 x0 x1 x2 x3 x4 x5,
      r_113 c a1 h1 a2 h2 a3 h3 a4 h4 a5 h5 a6 h6 x0 x1 x2 x3 x4 x5,
      r_114 c a1 h1 a2 h2 a3 h3 a4 h4 a5 h5 a6 h6 x0 x1 x2 x3 x4 x5,
      r_115 c a1 h1 a2 h2 a3 h3 a4 h4 a5 h5 a6 h6 x0 x1 x2 x3 x4 x5,
      r_116 c a1 h1 a2 h2 a3 h3 a4 h4 a5 h5 a6 h6 x0 x1 x2 x3 x4 x5,
      r_117 c a1 h1 a2 h2 a3 h3 a4 h4 a5 h5 a6 h6 x0 x1 x2 x3 x4 x5,
      r_111 c a1 h1 a2 h2 a3 h3 a4 h4 a5 h5 a6 h6 x0 x1 x2 x3 x4 x5⟩ : Oct (FVec F S200x128 .f32))
    = Oct.sort maximumf minimumf ⟨r_18 c a1 h1 a2 h2 a3 h3 a4 h4 a5 h5 a6 h6 x0 x1 x2 x3 x4 x5,
      r_19 c a1 h1 a2 h2 a3 h3 a4 h4 a5 h5 a6 h6 x0 x1 x2 x3 x4 x5,
      r_20 c a1 h1 a2 h2 a3 h3 a4 h4 a5 h5 a6 h6 x0 x1 x2 x3 x4 x5,
      r_21 c a1 h1 a2 h2 a3 h3 a4 h4 a5 h5 a6 h6 x0 x1 x2 x3 x4 x5,
      r_22 c a1 h1 a2 h2 a3 h3 a4 h4 a5 h5 a6 h6 x0 x1 x2 x3 x4 x5,
      r_23 c a1 h1 a2 h2 a3 h3 a4 h4 a5 h5 a6 h6 x0 x1 x2 x3 x4 x5,
      r_24 c a1 h1 a2 h2 a3 h3 a4 h4 a5 h5 a6 h6 x0 x1 x2 x3 x4 x5,
      r_25 c a1 h1 a2 h2 a3 h3 a4 h4 a5 h5 a6 h6 x0 x1 x2 x3 x4 x5⟩ := by
  rfl

/-- Group 3: the eight wires after its sorting layers. -/
theorem sorted3 : (⟨r_118 c a1 h1 a2 h2 a3 h3 a4 h4 a5 h5 a6 h6 x0 x1 x2 x3 x4 x5,
      r_120 c a1 h1 a2 h2 a3 h3 a4 h4 a5 h5 a6 h6 x0 x1 x2 x3 x4 x5,
      r_121 c a1 h1 a2 h2 a3 h3 a4 h4 a5 h5 a6 h6 x0 x1 x2 x3 x4 x5,
      r_122 c a1 h1 a2 h2 a3 h3 a4 h4 a5 h5 a6 h6 x0 x1 x2 x3 x4 x5,
      r_123 c a1 h1 a2 h2 a3 h3 a4 h4 a5 h5 a6 h6 x0 x1 x2 x3 x4 x5,
      r_124 c a1 h1 a2 h2 a3 h3 a4 h4 a5 h5 a6 h6 x0 x1 x2 x3 x4 x5,
      r_125 c a1 h1 a2 h2 a3 h3 a4 h4 a5 h5 a6 h6 x0 x1 x2 x3 x4 x5,
      r_119 c a1 h1 a2 h2 a3 h3 a4 h4 a5 h5 a6 h6 x0 x1 x2 x3 x4 x5⟩ : Oct (FVec F S200x128 .f32))
    = Oct.sort maximumf minimumf ⟨r_26 c a1 h1 a2 h2 a3 h3 a4 h4 a5 h5 a6 h6 x0 x1 x2 x3 x4 x5,
      r_27 c a1 h1 a2 h2 a3 h3 a4 h4 a5 h5 a6 h6 x0 x1 x2 x3 x4 x5,
      r_28 c a1 h1 a2 h2 a3 h3 a4 h4 a5 h5 a6 h6 x0 x1 x2 x3 x4 x5,
      r_29 c a1 h1 a2 h2 a3 h3 a4 h4 a5 h5 a6 h6 x0 x1 x2 x3 x4 x5,
      r_30 c a1 h1 a2 h2 a3 h3 a4 h4 a5 h5 a6 h6 x0 x1 x2 x3 x4 x5,
      r_31 c a1 h1 a2 h2 a3 h3 a4 h4 a5 h5 a6 h6 x0 x1 x2 x3 x4 x5,
      r_32 c a1 h1 a2 h2 a3 h3 a4 h4 a5 h5 a6 h6 x0 x1 x2 x3 x4 x5,
      r_33 c a1 h1 a2 h2 a3 h3 a4 h4 a5 h5 a6 h6 x0 x1 x2 x3 x4 x5⟩ := by
  rfl

/-- Group 4: the eight wires after its sorting layers. -/
theorem sorted4 : (⟨r_129 c a1 h1 a2 h2 a3 h3 a4 h4 a5 h5 a6 h6 x0 x1 x2 x3 x4 x5,
      r_131 c a1 h1 a2 h2 a3 h3 a4 h4 a5 h5 a6 h6 x0 x1 x2 x3 x4 x5,
      r_132 c a1 h1 a2 h2 a3 h3 a4 h4 a5 h5 a6 h6 x0 x1 x2 x3 x4 x5,
      r_133 c a1 h1 a2 h2 a3 h3 a4 h4 a5 h5 a6 h6 x0 x1 x2 x3 x4 x5,
      r_134 c a1 h1 a2 h2 a3 h3 a4 h4 a5 h5 a6 h6 x0 x1 x2 x3 x4 x5,
      r_135 c a1 h1 a2 h2 a3 h3 a4 h4 a5 h5 a6 h6 x0 x1 x2 x3 x4 x5,
      r_136 c a1 h1 a2 h2 a3 h3 a4 h4 a5 h5 a6 h6 x0 x1 x2 x3 x4 x5,
      r_130 c a1 h1 a2 h2 a3 h3 a4 h4 a5 h5 a6 h6 x0 x1 x2 x3 x4 x5⟩ : Oct (FVec F S200x128 .f32))
    = Oct.sort maximumf minimumf ⟨r_34 c a1 h1 a2 h2 a3 h3 a4 h4 a5 h5 a6 h6 x0 x1 x2 x3 x4 x5,
      r_35 c a1 h1 a2 h2 a3 h3 a4 h4 a5 h5 a6 h6 x0 x1 x2 x3 x4 x5,
      r_36 c a1 h1 a2 h2 a3 h3 a4 h4 a5 h5 a6 h6 x0 x1 x2 x3 x4 x5,
      r_37 c a1 h1 a2 h2 a3 h3 a4 h4 a5 h5 a6 h6 x0 x1 x2 x3 x4 x5,
      r_38 c a1 h1 a2 h2 a3 h3 a4 h4 a5 h5 a6 h6 x0 x1 x2 x3 x4 x5,
      r_39 c a1 h1 a2 h2 a3 h3 a4 h4 a5 h5 a6 h6 x0 x1 x2 x3 x4 x5,
      r_40 c a1 h1 a2 h2 a3 h3 a4 h4 a5 h5 a6 h6 x0 x1 x2 x3 x4 x5,
      r_41 c a1 h1 a2 h2 a3 h3 a4 h4 a5 h5 a6 h6 x0 x1 x2 x3 x4 x5⟩ := by
  rfl

/-- Group 5: the eight wires after its sorting layers. -/
theorem sorted5 : (⟨r_141 c a1 h1 a2 h2 a3 h3 a4 h4 a5 h5 a6 h6 x0 x1 x2 x3 x4 x5,
      r_147 c a1 h1 a2 h2 a3 h3 a4 h4 a5 h5 a6 h6 x0 x1 x2 x3 x4 x5,
      r_148 c a1 h1 a2 h2 a3 h3 a4 h4 a5 h5 a6 h6 x0 x1 x2 x3 x4 x5,
      r_149 c a1 h1 a2 h2 a3 h3 a4 h4 a5 h5 a6 h6 x0 x1 x2 x3 x4 x5,
      r_150 c a1 h1 a2 h2 a3 h3 a4 h4 a5 h5 a6 h6 x0 x1 x2 x3 x4 x5,
      r_151 c a1 h1 a2 h2 a3 h3 a4 h4 a5 h5 a6 h6 x0 x1 x2 x3 x4 x5,
      r_152 c a1 h1 a2 h2 a3 h3 a4 h4 a5 h5 a6 h6 x0 x1 x2 x3 x4 x5,
      r_146 c a1 h1 a2 h2 a3 h3 a4 h4 a5 h5 a6 h6 x0 x1 x2 x3 x4 x5⟩ : Oct (FVec F S200x128 .f32))
    = Oct.sort maximumf minimumf ⟨r_42 c a1 h1 a2 h2 a3 h3 a4 h4 a5 h5 a6 h6 x0 x1 x2 x3 x4 x5,
      r_43 c a1 h1 a2 h2 a3 h3 a4 h4 a5 h5 a6 h6 x0 x1 x2 x3 x4 x5,
      r_44 c a1 h1 a2 h2 a3 h3 a4 h4 a5 h5 a6 h6 x0 x1 x2 x3 x4 x5,
      r_45 c a1 h1 a2 h2 a3 h3 a4 h4 a5 h5 a6 h6 x0 x1 x2 x3 x4 x5,
      r_46 c a1 h1 a2 h2 a3 h3 a4 h4 a5 h5 a6 h6 x0 x1 x2 x3 x4 x5,
      r_47 c a1 h1 a2 h2 a3 h3 a4 h4 a5 h5 a6 h6 x0 x1 x2 x3 x4 x5,
      r_48 c a1 h1 a2 h2 a3 h3 a4 h4 a5 h5 a6 h6 x0 x1 x2 x3 x4 x5,
      r_49 c a1 h1 a2 h2 a3 h3 a4 h4 a5 h5 a6 h6 x0 x1 x2 x3 x4 x5⟩ := by
  rfl

/-- Group 6: the eight wires after its sorting layers. -/
theorem sorted6 : (⟨r_153 c a1 h1 a2 h2 a3 h3 a4 h4 a5 h5 a6 h6 x0 x1 x2 x3 x4 x5,
      r_155 c a1 h1 a2 h2 a3 h3 a4 h4 a5 h5 a6 h6 x0 x1 x2 x3 x4 x5,
      r_156 c a1 h1 a2 h2 a3 h3 a4 h4 a5 h5 a6 h6 x0 x1 x2 x3 x4 x5,
      r_157 c a1 h1 a2 h2 a3 h3 a4 h4 a5 h5 a6 h6 x0 x1 x2 x3 x4 x5,
      r_158 c a1 h1 a2 h2 a3 h3 a4 h4 a5 h5 a6 h6 x0 x1 x2 x3 x4 x5,
      r_159 c a1 h1 a2 h2 a3 h3 a4 h4 a5 h5 a6 h6 x0 x1 x2 x3 x4 x5,
      r_160 c a1 h1 a2 h2 a3 h3 a4 h4 a5 h5 a6 h6 x0 x1 x2 x3 x4 x5,
      r_154 c a1 h1 a2 h2 a3 h3 a4 h4 a5 h5 a6 h6 x0 x1 x2 x3 x4 x5⟩ : Oct (FVec F S200x128 .f32))
    = Oct.sort maximumf minimumf ⟨r_50 c a1 h1 a2 h2 a3 h3 a4 h4 a5 h5 a6 h6 x0 x1 x2 x3 x4 x5,
      r_51 c a1 h1 a2 h2 a3 h3 a4 h4 a5 h5 a6 h6 x0 x1 x2 x3 x4 x5,
      r_52 c a1 h1 a2 h2 a3 h3 a4 h4 a5 h5 a6 h6 x0 x1 x2 x3 x4 x5,
      r_53 c a1 h1 a2 h2 a3 h3 a4 h4 a5 h5 a6 h6 x0 x1 x2 x3 x4 x5,
      r_54 c a1 h1 a2 h2 a3 h3 a4 h4 a5 h5 a6 h6 x0 x1 x2 x3 x4 x5,
      r_55 c a1 h1 a2 h2 a3 h3 a4 h4 a5 h5 a6 h6 x0 x1 x2 x3 x4 x5,
      r_56 c a1 h1 a2 h2 a3 h3 a4 h4 a5 h5 a6 h6 x0 x1 x2 x3 x4 x5,
      r_57 c a1 h1 a2 h2 a3 h3 a4 h4 a5 h5 a6 h6 x0 x1 x2 x3 x4 x5⟩ := by
  rfl

/-- Group 7: the eight wires after its sorting layers. -/
theorem sorted7 : (⟨r_170 c a1 h1 a2 h2 a3 h3 a4 h4 a5 h5 a6 h6 x0 x1 x2 x3 x4 x5,
      r_172 c a1 h1 a2 h2 a3 h3 a4 h4 a5 h5 a6 h6 x0 x1 x2 x3 x4 x5,
      r_173 c a1 h1 a2 h2 a3 h3 a4 h4 a5 h5 a6 h6 x0 x1 x2 x3 x4 x5,
      r_174 c a1 h1 a2 h2 a3 h3 a4 h4 a5 h5 a6 h6 x0 x1 x2 x3 x4 x5,
      r_175 c a1 h1 a2 h2 a3 h3 a4 h4 a5 h5 a6 h6 x0 x1 x2 x3 x4 x5,
      r_176 c a1 h1 a2 h2 a3 h3 a4 h4 a5 h5 a6 h6 x0 x1 x2 x3 x4 x5,
      r_177 c a1 h1 a2 h2 a3 h3 a4 h4 a5 h5 a6 h6 x0 x1 x2 x3 x4 x5,
      r_171 c a1 h1 a2 h2 a3 h3 a4 h4 a5 h5 a6 h6 x0 x1 x2 x3 x4 x5⟩ : Oct (FVec F S200x128 .f32))
    = Oct.sort maximumf minimumf ⟨r_58 c a1 h1 a2 h2 a3 h3 a4 h4 a5 h5 a6 h6 x0 x1 x2 x3 x4 x5,
      r_59 c a1 h1 a2 h2 a3 h3 a4 h4 a5 h5 a6 h6 x0 x1 x2 x3 x4 x5,
      r_60 c a1 h1 a2 h2 a3 h3 a4 h4 a5 h5 a6 h6 x0 x1 x2 x3 x4 x5,
      r_61 c a1 h1 a2 h2 a3 h3 a4 h4 a5 h5 a6 h6 x0 x1 x2 x3 x4 x5,
      r_62 c a1 h1 a2 h2 a3 h3 a4 h4 a5 h5 a6 h6 x0 x1 x2 x3 x4 x5,
      r_63 c a1 h1 a2 h2 a3 h3 a4 h4 a5 h5 a6 h6 x0 x1 x2 x3 x4 x5,
      r_64 c a1 h1 a2 h2 a3 h3 a4 h4 a5 h5 a6 h6 x0 x1 x2 x3 x4 x5,
      r_65 c a1 h1 a2 h2 a3 h3 a4 h4 a5 h5 a6 h6 x0 x1 x2 x3 x4 x5⟩ := by
  rfl

/-- Group 8: the eight wires after its sorting layers. -/
theorem sorted8 : (⟨r_178 c a1 h1 a2 h2 a3 h3 a4 h4 a5 h5 a6 h6 x0 x1 x2 x3 x4 x5,
      r_187 c a1 h1 a2 h2 a3 h3 a4 h4 a5 h5 a6 h6 x0 x1 x2 x3 x4 x5,
      r_188 c a1 h1 a2 h2 a3 h3 a4 h4 a5 h5 a6 h6 x0 x1 x2 x3 x4 x5,
      r_189 c a1 h1 a2 h2 a3 h3 a4 h4 a5 h5 a6 h6 x0 x1 x2 x3 x4 x5,
      r_190 c a1 h1 a2 h2 a3 h3 a4 h4 a5 h5 a6 h6 x0 x1 x2 x3 x4 x5,
      r_191 c a1 h1 a2 h2 a3 h3 a4 h4 a5 h5 a6 h6 x0 x1 x2 x3 x4 x5,
      r_192 c a1 h1 a2 h2 a3 h3 a4 h4 a5 h5 a6 h6 x0 x1 x2 x3 x4 x5,
      r_183 c a1 h1 a2 h2 a3 h3 a4 h4 a5 h5 a6 h6 x0 x1 x2 x3 x4 x5⟩ : Oct (FVec F S200x128 .f32))
    = Oct.sort maximumf minimumf ⟨r_66 c a1 h1 a2 h2 a3 h3 a4 h4 a5 h5 a6 h6 x0 x1 x2 x3 x4 x5,
      r_67 c a1 h1 a2 h2 a3 h3 a4 h4 a5 h5 a6 h6 x0 x1 x2 x3 x4 x5,
      r_68 c a1 h1 a2 h2 a3 h3 a4 h4 a5 h5 a6 h6 x0 x1 x2 x3 x4 x5,
      r_69 c a1 h1 a2 h2 a3 h3 a4 h4 a5 h5 a6 h6 x0 x1 x2 x3 x4 x5,
      r_70 c a1 h1 a2 h2 a3 h3 a4 h4 a5 h5 a6 h6 x0 x1 x2 x3 x4 x5,
      r_71 c a1 h1 a2 h2 a3 h3 a4 h4 a5 h5 a6 h6 x0 x1 x2 x3 x4 x5,
      r_72 c a1 h1 a2 h2 a3 h3 a4 h4 a5 h5 a6 h6 x0 x1 x2 x3 x4 x5,
      r_73 c a1 h1 a2 h2 a3 h3 a4 h4 a5 h5 a6 h6 x0 x1 x2 x3 x4 x5⟩ := by
  rfl

/-- Group 9: the eight wires after its sorting layers. -/
theorem sorted9 : (⟨r_193 c a1 h1 a2 h2 a3 h3 a4 h4 a5 h5 a6 h6 x0 x1 x2 x3 x4 x5,
      r_195 c a1 h1 a2 h2 a3 h3 a4 h4 a5 h5 a6 h6 x0 x1 x2 x3 x4 x5,
      r_196 c a1 h1 a2 h2 a3 h3 a4 h4 a5 h5 a6 h6 x0 x1 x2 x3 x4 x5,
      r_197 c a1 h1 a2 h2 a3 h3 a4 h4 a5 h5 a6 h6 x0 x1 x2 x3 x4 x5,
      r_198 c a1 h1 a2 h2 a3 h3 a4 h4 a5 h5 a6 h6 x0 x1 x2 x3 x4 x5,
      r_199 c a1 h1 a2 h2 a3 h3 a4 h4 a5 h5 a6 h6 x0 x1 x2 x3 x4 x5,
      r_200 c a1 h1 a2 h2 a3 h3 a4 h4 a5 h5 a6 h6 x0 x1 x2 x3 x4 x5,
      r_194 c a1 h1 a2 h2 a3 h3 a4 h4 a5 h5 a6 h6 x0 x1 x2 x3 x4 x5⟩ : Oct (FVec F S200x128 .f32))
    = Oct.sort maximumf minimumf ⟨r_74 c a1 h1 a2 h2 a3 h3 a4 h4 a5 h5 a6 h6 x0 x1 x2 x3 x4 x5,
      r_75 c a1 h1 a2 h2 a3 h3 a4 h4 a5 h5 a6 h6 x0 x1 x2 x3 x4 x5,
      r_76 c a1 h1 a2 h2 a3 h3 a4 h4 a5 h5 a6 h6 x0 x1 x2 x3 x4 x5,
      r_77 c a1 h1 a2 h2 a3 h3 a4 h4 a5 h5 a6 h6 x0 x1 x2 x3 x4 x5,
      r_78 c a1 h1 a2 h2 a3 h3 a4 h4 a5 h5 a6 h6 x0 x1 x2 x3 x4 x5,
      r_79 c a1 h1 a2 h2 a3 h3 a4 h4 a5 h5 a6 h6 x0 x1 x2 x3 x4 x5,
      r_80 c a1 h1 a2 h2 a3 h3 a4 h4 a5 h5 a6 h6 x0 x1 x2 x3 x4 x5,
      k0_pay94⟩ := by
  rfl

/-- Groups 0 and 1 merged. -/
theorem merged0 : (⟨r_210 c a1 h1 a2 h2 a3 h3 a4 h4 a5 h5 a6 h6 x0 x1 x2 x3 x4 x5,
      r_211 c a1 h1 a2 h2 a3 h3 a4 h4 a5 h5 a6 h6 x0 x1 x2 x3 x4 x5,
      r_212 c a1 h1 a2 h2 a3 h3 a4 h4 a5 h5 a6 h6 x0 x1 x2 x3 x4 x5,
      r_213 c a1 h1 a2 h2 a3 h3 a4 h4 a5 h5 a6 h6 x0 x1 x2 x3 x4 x5,
      r_214 c a1 h1 a2 h2 a3 h3 a4 h4 a5 h5 a6 h6 x0 x1 x2 x3 x4 x5,
      r_215 c a1 h1 a2 h2 a3 h3 a4 h4 a5 h5 a6 h6 x0 x1 x2 x3 x4 x5,
      r_216 c a1 h1 a2 h2 a3 h3 a4 h4 a5 h5 a6 h6 x0 x1 x2 x3 x4 x5,
      r_217 c a1 h1 a2 h2 a3 h3 a4 h4 a5 h5 a6 h6 x0 x1 x2 x3 x4 x5⟩ : Oct (FVec F S200x128 .f32))
    = Oct.merge maximumf minimumf ⟨r_81 c a1 h1 a2 h2 a3 h3 a4 h4 a5 h5 a6 h6 x0 x1 x2 x3 x4 x5,
      r_87 c a1 h1 a2 h2 a3 h3 a4 h4 a5 h5 a6 h6 x0 x1 x2 x3 x4 x5,
      r_88 c a1 h1 a2 h2 a3 h3 a4 h4 a5 h5 a6 h6 x0 x1 x2 x3 x4 x5,
      r_89 c a1 h1 a2 h2 a3 h3 a4 h4 a5 h5 a6 h6 x0 x1 x2 x3 x4 x5,
      r_90 c a1 h1 a2 h2 a3 h3 a4 h4 a5 h5 a6 h6 x0 x1 x2 x3 x4 x5,
      r_91 c a1 h1 a2 h2 a3 h3 a4 h4 a5 h5 a6 h6 x0 x1 x2 x3 x4 x5,
      r_92 c a1 h1 a2 h2 a3 h3 a4 h4 a5 h5 a6 h6 x0 x1 x2 x3 x4 x5,
      r_83 c a1 h1 a2 h2 a3 h3 a4 h4 a5 h5 a6 h6 x0 x1 x2 x3 x4 x5⟩
      ⟨r_93 c a1 h1 a2 h2 a3 h3 a4 h4 a5 h5 a6 h6 x0 x1 x2 x3 x4 x5,
      r_95 c a1 h1 a2 h2 a3 h3 a4 h4 a5 h5 a6 h6 x0 x1 x2 x3 x4 x5,
      r_96 c a1 h1 a2 h2 a3 h3 a4 h4 a5 h5 a6 h6 x0 x1 x2 x3 x4 x5,
      r_97 c a1 h1 a2 h2 a3 h3 a4 h4 a5 h5 a6 h6 x0 x1 x2 x3 x4 x5,
      r_98 c a1 h1 a2 h2 a3 h3 a4 h4 a5 h5 a6 h6 x0 x1 x2 x3 x4 x5,
      r_99 c a1 h1 a2 h2 a3 h3 a4 h4 a5 h5 a6 h6 x0 x1 x2 x3 x4 x5,
      r_100 c a1 h1 a2 h2 a3 h3 a4 h4 a5 h5 a6 h6 x0 x1 x2 x3 x4 x5,
      r_94 c a1 h1 a2 h2 a3 h3 a4 h4 a5 h5 a6 h6 x0 x1 x2 x3 x4 x5⟩ := by
  rfl

/-- Groups 2 and 3 merged. -/
theorem merged1 : (⟨r_218 c a1 h1 a2 h2 a3 h3 a4 h4 a5 h5 a6 h6 x0 x1 x2 x3 x4 x5,
      r_219 c a1 h1 a2 h2 a3 h3 a4 h4 a5 h5 a6 h6 x0 x1 x2 x3 x4 x5,
      r_220 c a1 h1 a2 h2 a3 h3 a4 h4 a5 h5 a6 h6 x0 x1 x2 x3 x4 x5,
      r_221 c a1 h1 a2 h2 a3 h3 a4 h4 a5 h5 a6 h6 x0 x1 x2 x3 x4 x5,
      r_222 c a1 h1 a2 h2 a3 h3 a4 h4 a5 h5 a6 h6 x0 x1 x2 x3 x4 x5,
      r_223 c a1 h1 a2 h2 a3 h3 a4 h4 a5 h5 a6 h6 x0 x1 x2 x3 x4 x5,
      r_224 c a1 h1 a2 h2 a3 h3 a4 h4 a5 h5 a6 h6 x0 x1 x2 x3 x4 x5,
      r_225 c a1 h1 a2 h2 a3 h3 a4 h4 a5 h5 a6 h6 x0 x1 x2 x3 x4 x5⟩ : Oct (FVec F S200x128 .f32))
    = Oct.merge maximumf minimumf ⟨r_110 c a1 h1 a2 h2 a3 h3 a4 h4 a5 h5 a6 h6 x0 x1 x2 x3 x4 x5,
      r_112 c a1 h1 a2 h2 a3 h3 a4 h4 a5 h5 a6 h6 x0 x1 x2 x3 x4 x5,
      r_113 c a1 h1 a2 h2 a3 h3 a4 h4 a5 h5 a6 h6 x0 x1 x2 x3 x4 x5,
      r_114 c a1 h1 a2 h2 a3 h3 a4 h4 a5 h5 a6 h6 x0 x1 x2 x3 x4 x5,
      r_115 c a1 h1 a2 h2 a3 h3 a4 h4 a5 h5 a6 h6 x0 x1 x2 x3 x4 x5,
      r_116 c a1 h1 a2 h2 a3 h3 a4 h4 a5 h5 a6 h6 x0 x1 x2 x3 x4 x5,
      r_117 c a1 h1 a2 h2 a3 h3 a4 h4 a5 h5 a6 h6 x0 x1 x2 x3 x4 x5,
      r_111 c a1 h1 a2 h2 a3 h3 a4 h4 a5 h5 a6 h6 x0 x1 x2 x3 x4 x5⟩
      ⟨r_118 c a1 h1 a2 h2 a3 h3 a4 h4 a5 h5 a6 h6 x0 x1 x2 x3 x4 x5,
      r_120 c a1 h1 a2 h2 a3 h3 a4 h4 a5 h5 a6 h6 x0 x1 x2 x3 x4 x5,
      r_121 c a1 h1 a2 h2 a3 h3 a4 h4 a5 h5 a6 h6 x0 x1 x2 x3 x4 x5,
      r_122 c a1 h1 a2 h2 a3 h3 a4 h4 a5 h5 a6 h6 x0 x1 x2 x3 x4 x5,
      r_123 c a1 h1 a2 h2 a3 h3 a4 h4 a5 h5 a6 h6 x0 x1 x2 x3 x4 x5,
      r_124 c a1 h1 a2 h2 a3 h3 a4 h4 a5 h5 a6 h6 x0 x1 x2 x3 x4 x5,
      r_125 c a1 h1 a2 h2 a3 h3 a4 h4 a5 h5 a6 h6 x0 x1 x2 x3 x4 x5,
      r_119 c a1 h1 a2 h2 a3 h3 a4 h4 a5 h5 a6 h6 x0 x1 x2 x3 x4 x5⟩ := by
  rfl

/-- Groups 4 and 5 merged. -/
theorem merged2 : (⟨r_235 c a1 h1 a2 h2 a3 h3 a4 h4 a5 h5 a6 h6 x0 x1 x2 x3 x4 x5,
      r_236 c a1 h1 a2 h2 a3 h3 a4 h4 a5 h5 a6 h6 x0 x1 x2 x3 x4 x5,
      r_237 c a1 h1 a2 h2 a3 h3 a4 h4 a5 h5 a6 h6 x0 x1 x2 x3 x4 x5,
      r_238 c a1 h1 a2 h2 a3 h3 a4 h4 a5 h5 a6 h6 x0 x1 x2 x3 x4 x5,
      r_239 c a1 h1 a2 h2 a3 h3 a4 h4 a5 h5 a6 h6 x0 x1 x2 x3 x4 x5,
      r_240 c a1 h1 a2 h2 a3 h3 a4 h4 a5 h5 a6 h6 x0 x1 x2 x3 x4 x5,
      r_241 c a1 h1 a2 h2 a3 h3 a4 h4 a5 h5 a6 h6 x0 x1 x2 x3 x4 x5,
      r_242 c a1 h1 a2 h2 a3 h3 a4 h4 a5 h5 a6 h6 x0 x1 x2 x3 x4 x5⟩ : Oct (FVec F S200x128 .f32))
    = Oct.merge maximumf minimumf ⟨r_129 c a1 h1 a2 h2 a3 h3 a4 h4 a5 h5 a6 h6 x0 x1 x2 x3 x4 x5,
      r_131 c a1 h1 a2 h2 a3 h3 a4 h4 a5 h5 a6 h6 x0 x1 x2 x3 x4 x5,
      r_132 c a1 h1 a2 h2 a3 h3 a4 h4 a5 h5 a6 h6 x0 x1 x2 x3 x4 x5,
      r_133 c a1 h1 a2 h2 a3 h3 a4 h4 a5 h5 a6 h6 x0 x1 x2 x3 x4 x5,
      r_134 c a1 h1 a2 h2 a3 h3 a4 h4 a5 h5 a6 h6 x0 x1 x2 x3 x4 x5,
      r_135 c a1 h1 a2 h2 a3 h3 a4 h4 a5 h5 a6 h6 x0 x1 x2 x3 x4 x5,
      r_136 c a1 h1 a2 h2 a3 h3 a4 h4 a5 h5 a6 h6 x0 x1 x2 x3 x4 x5,
      r_130 c a1 h1 a2 h2 a3 h3 a4 h4 a5 h5 a6 h6 x0 x1 x2 x3 x4 x5⟩
      ⟨r_141 c a1 h1 a2 h2 a3 h3 a4 h4 a5 h5 a6 h6 x0 x1 x2 x3 x4 x5,
      r_147 c a1 h1 a2 h2 a3 h3 a4 h4 a5 h5 a6 h6 x0 x1 x2 x3 x4 x5,
      r_148 c a1 h1 a2 h2 a3 h3 a4 h4 a5 h5 a6 h6 x0 x1 x2 x3 x4 x5,
      r_149 c a1 h1 a2 h2 a3 h3 a4 h4 a5 h5 a6 h6 x0 x1 x2 x3 x4 x5,
      r_150 c a1 h1 a2 h2 a3 h3 a4 h4 a5 h5 a6 h6 x0 x1 x2 x3 x4 x5,
      r_151 c a1 h1 a2 h2 a3 h3 a4 h4 a5 h5 a6 h6 x0 x1 x2 x3 x4 x5,
      r_152 c a1 h1 a2 h2 a3 h3 a4 h4 a5 h5 a6 h6 x0 x1 x2 x3 x4 x5,
      r_146 c a1 h1 a2 h2 a3 h3 a4 h4 a5 h5 a6 h6 x0 x1 x2 x3 x4 x5⟩ := by
  rfl

/-- Groups 6 and 7 merged. -/
theorem merged3 : (⟨r_243 c a1 h1 a2 h2 a3 h3 a4 h4 a5 h5 a6 h6 x0 x1 x2 x3 x4 x5,
      r_244 c a1 h1 a2 h2 a3 h3 a4 h4 a5 h5 a6 h6 x0 x1 x2 x3 x4 x5,
      r_245 c a1 h1 a2 h2 a3 h3 a4 h4 a5 h5 a6 h6 x0 x1 x2 x3 x4 x5,
      r_246 c a1 h1 a2 h2 a3 h3 a4 h4 a5 h5 a6 h6 x0 x1 x2 x3 x4 x5,
      r_247 c a1 h1 a2 h2 a3 h3 a4 h4 a5 h5 a6 h6 x0 x1 x2 x3 x4 x5,
      r_248 c a1 h1 a2 h2 a3 h3 a4 h4 a5 h5 a6 h6 x0 x1 x2 x3 x4 x5,
      r_249 c a1 h1 a2 h2 a3 h3 a4 h4 a5 h5 a6 h6 x0 x1 x2 x3 x4 x5,
      r_250 c a1 h1 a2 h2 a3 h3 a4 h4 a5 h5 a6 h6 x0 x1 x2 x3 x4 x5⟩ : Oct (FVec F S200x128 .f32))
    = Oct.merge maximumf minimumf ⟨r_153 c a1 h1 a2 h2 a3 h3 a4 h4 a5 h5 a6 h6 x0 x1 x2 x3 x4 x5,
      r_155 c a1 h1 a2 h2 a3 h3 a4 h4 a5 h5 a6 h6 x0 x1 x2 x3 x4 x5,
      r_156 c a1 h1 a2 h2 a3 h3 a4 h4 a5 h5 a6 h6 x0 x1 x2 x3 x4 x5,
      r_157 c a1 h1 a2 h2 a3 h3 a4 h4 a5 h5 a6 h6 x0 x1 x2 x3 x4 x5,
      r_158 c a1 h1 a2 h2 a3 h3 a4 h4 a5 h5 a6 h6 x0 x1 x2 x3 x4 x5,
      r_159 c a1 h1 a2 h2 a3 h3 a4 h4 a5 h5 a6 h6 x0 x1 x2 x3 x4 x5,
      r_160 c a1 h1 a2 h2 a3 h3 a4 h4 a5 h5 a6 h6 x0 x1 x2 x3 x4 x5,
      r_154 c a1 h1 a2 h2 a3 h3 a4 h4 a5 h5 a6 h6 x0 x1 x2 x3 x4 x5⟩
      ⟨r_170 c a1 h1 a2 h2 a3 h3 a4 h4 a5 h5 a6 h6 x0 x1 x2 x3 x4 x5,
      r_172 c a1 h1 a2 h2 a3 h3 a4 h4 a5 h5 a6 h6 x0 x1 x2 x3 x4 x5,
      r_173 c a1 h1 a2 h2 a3 h3 a4 h4 a5 h5 a6 h6 x0 x1 x2 x3 x4 x5,
      r_174 c a1 h1 a2 h2 a3 h3 a4 h4 a5 h5 a6 h6 x0 x1 x2 x3 x4 x5,
      r_175 c a1 h1 a2 h2 a3 h3 a4 h4 a5 h5 a6 h6 x0 x1 x2 x3 x4 x5,
      r_176 c a1 h1 a2 h2 a3 h3 a4 h4 a5 h5 a6 h6 x0 x1 x2 x3 x4 x5,
      r_177 c a1 h1 a2 h2 a3 h3 a4 h4 a5 h5 a6 h6 x0 x1 x2 x3 x4 x5,
      r_171 c a1 h1 a2 h2 a3 h3 a4 h4 a5 h5 a6 h6 x0 x1 x2 x3 x4 x5⟩ := by
  rfl

/-- Groups 8 and 9 merged. -/
theorem merged4 : (⟨r_258 c a1 h1 a2 h2 a3 h3 a4 h4 a5 h5 a6 h6 x0 x1 x2 x3 x4 x5,
      r_259 c a1 h1 a2 h2 a3 h3 a4 h4 a5 h5 a6 h6 x0 x1 x2 x3 x4 x5,
      r_260 c a1 h1 a2 h2 a3 h3 a4 h4 a5 h5 a6 h6 x0 x1 x2 x3 x4 x5,
      r_261 c a1 h1 a2 h2 a3 h3 a4 h4 a5 h5 a6 h6 x0 x1 x2 x3 x4 x5,
      r_262 c a1 h1 a2 h2 a3 h3 a4 h4 a5 h5 a6 h6 x0 x1 x2 x3 x4 x5,
      r_263 c a1 h1 a2 h2 a3 h3 a4 h4 a5 h5 a6 h6 x0 x1 x2 x3 x4 x5,
      r_264 c a1 h1 a2 h2 a3 h3 a4 h4 a5 h5 a6 h6 x0 x1 x2 x3 x4 x5,
      r_265 c a1 h1 a2 h2 a3 h3 a4 h4 a5 h5 a6 h6 x0 x1 x2 x3 x4 x5⟩ : Oct (FVec F S200x128 .f32))
    = Oct.merge maximumf minimumf ⟨r_178 c a1 h1 a2 h2 a3 h3 a4 h4 a5 h5 a6 h6 x0 x1 x2 x3 x4 x5,
      r_187 c a1 h1 a2 h2 a3 h3 a4 h4 a5 h5 a6 h6 x0 x1 x2 x3 x4 x5,
      r_188 c a1 h1 a2 h2 a3 h3 a4 h4 a5 h5 a6 h6 x0 x1 x2 x3 x4 x5,
      r_189 c a1 h1 a2 h2 a3 h3 a4 h4 a5 h5 a6 h6 x0 x1 x2 x3 x4 x5,
      r_190 c a1 h1 a2 h2 a3 h3 a4 h4 a5 h5 a6 h6 x0 x1 x2 x3 x4 x5,
      r_191 c a1 h1 a2 h2 a3 h3 a4 h4 a5 h5 a6 h6 x0 x1 x2 x3 x4 x5,
      r_192 c a1 h1 a2 h2 a3 h3 a4 h4 a5 h5 a6 h6 x0 x1 x2 x3 x4 x5,
      r_183 c a1 h1 a2 h2 a3 h3 a4 h4 a5 h5 a6 h6 x0 x1 x2 x3 x4 x5⟩
      ⟨r_193 c a1 h1 a2 h2 a3 h3 a4 h4 a5 h5 a6 h6 x0 x1 x2 x3 x4 x5,
      r_195 c a1 h1 a2 h2 a3 h3 a4 h4 a5 h5 a6 h6 x0 x1 x2 x3 x4 x5,
      r_196 c a1 h1 a2 h2 a3 h3 a4 h4 a5 h5 a6 h6 x0 x1 x2 x3 x4 x5,
      r_197 c a1 h1 a2 h2 a3 h3 a4 h4 a5 h5 a6 h6 x0 x1 x2 x3 x4 x5,
      r_198 c a1 h1 a2 h2 a3 h3 a4 h4 a5 h5 a6 h6 x0 x1 x2 x3 x4 x5,
      r_199 c a1 h1 a2 h2 a3 h3 a4 h4 a5 h5 a6 h6 x0 x1 x2 x3 x4 x5,
      r_200 c a1 h1 a2 h2 a3 h3 a4 h4 a5 h5 a6 h6 x0 x1 x2 x3 x4 x5,
      r_194 c a1 h1 a2 h2 a3 h3 a4 h4 a5 h5 a6 h6 x0 x1 x2 x3 x4 x5⟩ := by
  rfl

/-- Groups 0 to 3 merged. -/
theorem mergedLow : (⟨r_266 c a1 h1 a2 h2 a3 h3 a4 h4 a5 h5 a6 h6 x0 x1 x2 x3 x4 x5,
      r_267 c a1 h1 a2 h2 a3 h3 a4 h4 a5 h5 a6 h6 x0 x1 x2 x3 x4 x5,
      r_268 c a1 h1 a2 h2 a3 h3 a4 h4 a5 h5 a6 h6 x0 x1 x2 x3 x4 x5,
      r_269 c a1 h1 a2 h2 a3 h3 a4 h4 a5 h5 a6 h6 x0 x1 x2 x3 x4 x5,
      r_270 c a1 h1 a2 h2 a3 h3 a4 h4 a5 h5 a6 h6 x0 x1 x2 x3 x4 x5,
      r_271 c a1 h1 a2 h2 a3 h3 a4 h4 a5 h5 a6 h6 x0 x1 x2 x3 x4 x5,
      r_272 c a1 h1 a2 h2 a3 h3 a4 h4 a5 h5 a6 h6 x0 x1 x2 x3 x4 x5,
      r_273 c a1 h1 a2 h2 a3 h3 a4 h4 a5 h5 a6 h6 x0 x1 x2 x3 x4 x5⟩ : Oct (FVec F S200x128 .f32))
    = Oct.merge maximumf minimumf ⟨r_210 c a1 h1 a2 h2 a3 h3 a4 h4 a5 h5 a6 h6 x0 x1 x2 x3 x4 x5,
      r_211 c a1 h1 a2 h2 a3 h3 a4 h4 a5 h5 a6 h6 x0 x1 x2 x3 x4 x5,
      r_212 c a1 h1 a2 h2 a3 h3 a4 h4 a5 h5 a6 h6 x0 x1 x2 x3 x4 x5,
      r_213 c a1 h1 a2 h2 a3 h3 a4 h4 a5 h5 a6 h6 x0 x1 x2 x3 x4 x5,
      r_214 c a1 h1 a2 h2 a3 h3 a4 h4 a5 h5 a6 h6 x0 x1 x2 x3 x4 x5,
      r_215 c a1 h1 a2 h2 a3 h3 a4 h4 a5 h5 a6 h6 x0 x1 x2 x3 x4 x5,
      r_216 c a1 h1 a2 h2 a3 h3 a4 h4 a5 h5 a6 h6 x0 x1 x2 x3 x4 x5,
      r_217 c a1 h1 a2 h2 a3 h3 a4 h4 a5 h5 a6 h6 x0 x1 x2 x3 x4 x5⟩
      ⟨r_218 c a1 h1 a2 h2 a3 h3 a4 h4 a5 h5 a6 h6 x0 x1 x2 x3 x4 x5,
      r_219 c a1 h1 a2 h2 a3 h3 a4 h4 a5 h5 a6 h6 x0 x1 x2 x3 x4 x5,
      r_220 c a1 h1 a2 h2 a3 h3 a4 h4 a5 h5 a6 h6 x0 x1 x2 x3 x4 x5,
      r_221 c a1 h1 a2 h2 a3 h3 a4 h4 a5 h5 a6 h6 x0 x1 x2 x3 x4 x5,
      r_222 c a1 h1 a2 h2 a3 h3 a4 h4 a5 h5 a6 h6 x0 x1 x2 x3 x4 x5,
      r_223 c a1 h1 a2 h2 a3 h3 a4 h4 a5 h5 a6 h6 x0 x1 x2 x3 x4 x5,
      r_224 c a1 h1 a2 h2 a3 h3 a4 h4 a5 h5 a6 h6 x0 x1 x2 x3 x4 x5,
      r_225 c a1 h1 a2 h2 a3 h3 a4 h4 a5 h5 a6 h6 x0 x1 x2 x3 x4 x5⟩ := by
  rfl

/-- Groups 0 to 7 merged. -/
theorem mergedAll : (⟨r_279 c a1 h1 a2 h2 a3 h3 a4 h4 a5 h5 a6 h6 x0 x1 x2 x3 x4 x5,
      r_280 c a1 h1 a2 h2 a3 h3 a4 h4 a5 h5 a6 h6 x0 x1 x2 x3 x4 x5,
      r_281 c a1 h1 a2 h2 a3 h3 a4 h4 a5 h5 a6 h6 x0 x1 x2 x3 x4 x5,
      r_282 c a1 h1 a2 h2 a3 h3 a4 h4 a5 h5 a6 h6 x0 x1 x2 x3 x4 x5,
      r_283 c a1 h1 a2 h2 a3 h3 a4 h4 a5 h5 a6 h6 x0 x1 x2 x3 x4 x5,
      r_284 c a1 h1 a2 h2 a3 h3 a4 h4 a5 h5 a6 h6 x0 x1 x2 x3 x4 x5,
      r_285 c a1 h1 a2 h2 a3 h3 a4 h4 a5 h5 a6 h6 x0 x1 x2 x3 x4 x5,
      minimumf (r_277 c a1 h1 a2 h2 a3 h3 a4 h4 a5 h5 a6 h6 x0 x1 x2 x3 x4 x5) (r_278 c a1 h1 a2 h2 a3 h3 a4 h4 a5 h5 a6 h6 x0 x1 x2 x3 x4 x5)⟩ : Oct (FVec F S200x128 .f32))
    = Oct.merge maximumf minimumf ⟨r_266 c a1 h1 a2 h2 a3 h3 a4 h4 a5 h5 a6 h6 x0 x1 x2 x3 x4 x5,
      r_267 c a1 h1 a2 h2 a3 h3 a4 h4 a5 h5 a6 h6 x0 x1 x2 x3 x4 x5,
      r_268 c a1 h1 a2 h2 a3 h3 a4 h4 a5 h5 a6 h6 x0 x1 x2 x3 x4 x5,
      r_269 c a1 h1 a2 h2 a3 h3 a4 h4 a5 h5 a6 h6 x0 x1 x2 x3 x4 x5,
      r_270 c a1 h1 a2 h2 a3 h3 a4 h4 a5 h5 a6 h6 x0 x1 x2 x3 x4 x5,
      r_271 c a1 h1 a2 h2 a3 h3 a4 h4 a5 h5 a6 h6 x0 x1 x2 x3 x4 x5,
      r_272 c a1 h1 a2 h2 a3 h3 a4 h4 a5 h5 a6 h6 x0 x1 x2 x3 x4 x5,
      r_273 c a1 h1 a2 h2 a3 h3 a4 h4 a5 h5 a6 h6 x0 x1 x2 x3 x4 x5⟩
      (Oct.merge maximumf minimumf ⟨r_235 c a1 h1 a2 h2 a3 h3 a4 h4 a5 h5 a6 h6 x0 x1 x2 x3 x4 x5,
      r_236 c a1 h1 a2 h2 a3 h3 a4 h4 a5 h5 a6 h6 x0 x1 x2 x3 x4 x5,
      r_237 c a1 h1 a2 h2 a3 h3 a4 h4 a5 h5 a6 h6 x0 x1 x2 x3 x4 x5,
      r_238 c a1 h1 a2 h2 a3 h3 a4 h4 a5 h5 a6 h6 x0 x1 x2 x3 x4 x5,
      r_239 c a1 h1 a2 h2 a3 h3 a4 h4 a5 h5 a6 h6 x0 x1 x2 x3 x4 x5,
      r_240 c a1 h1 a2 h2 a3 h3 a4 h4 a5 h5 a6 h6 x0 x1 x2 x3 x4 x5,
      r_241 c a1 h1 a2 h2 a3 h3 a4 h4 a5 h5 a6 h6 x0 x1 x2 x3 x4 x5,
      r_242 c a1 h1 a2 h2 a3 h3 a4 h4 a5 h5 a6 h6 x0 x1 x2 x3 x4 x5⟩
        ⟨r_243 c a1 h1 a2 h2 a3 h3 a4 h4 a5 h5 a6 h6 x0 x1 x2 x3 x4 x5,
      r_244 c a1 h1 a2 h2 a3 h3 a4 h4 a5 h5 a6 h6 x0 x1 x2 x3 x4 x5,
      r_245 c a1 h1 a2 h2 a3 h3 a4 h4 a5 h5 a6 h6 x0 x1 x2 x3 x4 x5,
      r_246 c a1 h1 a2 h2 a3 h3 a4 h4 a5 h5 a6 h6 x0 x1 x2 x3 x4 x5,
      r_247 c a1 h1 a2 h2 a3 h3 a4 h4 a5 h5 a6 h6 x0 x1 x2 x3 x4 x5,
      r_248 c a1 h1 a2 h2 a3 h3 a4 h4 a5 h5 a6 h6 x0 x1 x2 x3 x4 x5,
      r_249 c a1 h1 a2 h2 a3 h3 a4 h4 a5 h5 a6 h6 x0 x1 x2 x3 x4 x5,
      r_250 c a1 h1 a2 h2 a3 h3 a4 h4 a5 h5 a6 h6 x0 x1 x2 x3 x4 x5⟩) := by
  rfl

/-- The eight kept vectors, as the rounds read them. -/
abbrev keptOct : Oct (FVec F S200x128 .f32) :=
  ⟨k0_pay1 (r_265 c a1 h1 a2 h2 a3 h3 a4 h4 a5 h5 a6 h6 x0 x1 x2 x3 x4 x5) (r_279 c a1 h1 a2 h2 a3 h3 a4 h4 a5 h5 a6 h6 x0 x1 x2 x3 x4 x5),
    k0_pay2 (r_264 c a1 h1 a2 h2 a3 h3 a4 h4 a5 h5 a6 h6 x0 x1 x2 x3 x4 x5) (r_280 c a1 h1 a2 h2 a3 h3 a4 h4 a5 h5 a6 h6 x0 x1 x2 x3 x4 x5),
    k0_pay3 (r_263 c a1 h1 a2 h2 a3 h3 a4 h4 a5 h5 a6 h6 x0 x1 x2 x3 x4 x5) (r_281 c a1 h1 a2 h2 a3 h3 a4 h4 a5 h5 a6 h6 x0 x1 x2 x3 x4 x5),
    k0_pay4 (r_262 c a1 h1 a2 h2 a3 h3 a4 h4 a5 h5 a6 h6 x0 x1 x2 x3 x4 x5) (r_282 c a1 h1 a2 h2 a3 h3 a4 h4 a5 h5 a6 h6 x0 x1 x2 x3 x4 x5),
    k0_pay5 (r_261 c a1 h1 a2 h2 a3 h3 a4 h4 a5 h5 a6 h6 x0 x1 x2 x3 x4 x5) (r_283 c a1 h1 a2 h2 a3 h3 a4 h4 a5 h5 a6 h6 x0 x1 x2 x3 x4 x5),
    k0_pay6 (r_260 c a1 h1 a2 h2 a3 h3 a4 h4 a5 h5 a6 h6 x0 x1 x2 x3 x4 x5) (r_284 c a1 h1 a2 h2 a3 h3 a4 h4 a5 h5 a6 h6 x0 x1 x2 x3 x4 x5),
    k0_pay7 (r_259 c a1 h1 a2 h2 a3 h3 a4 h4 a5 h5 a6 h6 x0 x1 x2 x3 x4 x5) (r_285 c a1 h1 a2 h2 a3 h3 a4 h4 a5 h5 a6 h6 x0 x1 x2 x3 x4 x5),
    k0_pay8 (r_258 c a1 h1 a2 h2 a3 h3 a4 h4 a5 h5 a6 h6 x0 x1 x2 x3 x4 x5) (r_277 c a1 h1 a2 h2 a3 h3 a4 h4 a5 h5 a6 h6 x0 x1 x2 x3 x4 x5) (r_278 c a1 h1 a2 h2 a3 h3 a4 h4 a5 h5 a6 h6 x0 x1 x2 x3 x4 x5)⟩

/-- Chunks 0 to 7 of the scores. -/
abbrev chunks0 : Oct (FVec F S200x128 .f32) :=
  ⟨r_2 c a1 h1 a2 h2 a3 h3 a4 h4 a5 h5 a6 h6 x0 x1 x2 x3 x4 x5,
      r_3 c a1 h1 a2 h2 a3 h3 a4 h4 a5 h5 a6 h6 x0 x1 x2 x3 x4 x5,
      r_4 c a1 h1 a2 h2 a3 h3 a4 h4 a5 h5 a6 h6 x0 x1 x2 x3 x4 x5,
      r_5 c a1 h1 a2 h2 a3 h3 a4 h4 a5 h5 a6 h6 x0 x1 x2 x3 x4 x5,
      r_6 c a1 h1 a2 h2 a3 h3 a4 h4 a5 h5 a6 h6 x0 x1 x2 x3 x4 x5,
      r_7 c a1 h1 a2 h2 a3 h3 a4 h4 a5 h5 a6 h6 x0 x1 x2 x3 x4 x5,
      r_8 c a1 h1 a2 h2 a3 h3 a4 h4 a5 h5 a6 h6 x0 x1 x2 x3 x4 x5,
      r_9 c a1 h1 a2 h2 a3 h3 a4 h4 a5 h5 a6 h6 x0 x1 x2 x3 x4 x5⟩

/-- Chunks 8 to 15 of the scores. -/
abbrev chunks1 : Oct (FVec F S200x128 .f32) :=
  ⟨r_10 c a1 h1 a2 h2 a3 h3 a4 h4 a5 h5 a6 h6 x0 x1 x2 x3 x4 x5,
      r_11 c a1 h1 a2 h2 a3 h3 a4 h4 a5 h5 a6 h6 x0 x1 x2 x3 x4 x5,
      r_12 c a1 h1 a2 h2 a3 h3 a4 h4 a5 h5 a6 h6 x0 x1 x2 x3 x4 x5,
      r_13 c a1 h1 a2 h2 a3 h3 a4 h4 a5 h5 a6 h6 x0 x1 x2 x3 x4 x5,
      r_14 c a1 h1 a2 h2 a3 h3 a4 h4 a5 h5 a6 h6 x0 x1 x2 x3 x4 x5,
      r_15 c a1 h1 a2 h2 a3 h3 a4 h4 a5 h5 a6 h6 x0 x1 x2 x3 x4 x5,
      r_16 c a1 h1 a2 h2 a3 h3 a4 h4 a5 h5 a6 h6 x0 x1 x2 x3 x4 x5,
      r_17 c a1 h1 a2 h2 a3 h3 a4 h4 a5 h5 a6 h6 x0 x1 x2 x3 x4 x5⟩

/-- Chunks 16 to 23 of the scores. -/
abbrev chunks2 : Oct (FVec F S200x128 .f32) :=
  ⟨r_18 c a1 h1 a2 h2 a3 h3 a4 h4 a5 h5 a6 h6 x0 x1 x2 x3 x4 x5,
      r_19 c a1 h1 a2 h2 a3 h3 a4 h4 a5 h5 a6 h6 x0 x1 x2 x3 x4 x5,
      r_20 c a1 h1 a2 h2 a3 h3 a4 h4 a5 h5 a6 h6 x0 x1 x2 x3 x4 x5,
      r_21 c a1 h1 a2 h2 a3 h3 a4 h4 a5 h5 a6 h6 x0 x1 x2 x3 x4 x5,
      r_22 c a1 h1 a2 h2 a3 h3 a4 h4 a5 h5 a6 h6 x0 x1 x2 x3 x4 x5,
      r_23 c a1 h1 a2 h2 a3 h3 a4 h4 a5 h5 a6 h6 x0 x1 x2 x3 x4 x5,
      r_24 c a1 h1 a2 h2 a3 h3 a4 h4 a5 h5 a6 h6 x0 x1 x2 x3 x4 x5,
      r_25 c a1 h1 a2 h2 a3 h3 a4 h4 a5 h5 a6 h6 x0 x1 x2 x3 x4 x5⟩

/-- Chunks 24 to 31 of the scores. -/
abbrev chunks3 : Oct (FVec F S200x128 .f32) :=
  ⟨r_26 c a1 h1 a2 h2 a3 h3 a4 h4 a5 h5 a6 h6 x0 x1 x2 x3 x4 x5,
      r_27 c a1 h1 a2 h2 a3 h3 a4 h4 a5 h5 a6 h6 x0 x1 x2 x3 x4 x5,
      r_28 c a1 h1 a2 h2 a3 h3 a4 h4 a5 h5 a6 h6 x0 x1 x2 x3 x4 x5,
      r_29 c a1 h1 a2 h2 a3 h3 a4 h4 a5 h5 a6 h6 x0 x1 x2 x3 x4 x5,
      r_30 c a1 h1 a2 h2 a3 h3 a4 h4 a5 h5 a6 h6 x0 x1 x2 x3 x4 x5,
      r_31 c a1 h1 a2 h2 a3 h3 a4 h4 a5 h5 a6 h6 x0 x1 x2 x3 x4 x5,
      r_32 c a1 h1 a2 h2 a3 h3 a4 h4 a5 h5 a6 h6 x0 x1 x2 x3 x4 x5,
      r_33 c a1 h1 a2 h2 a3 h3 a4 h4 a5 h5 a6 h6 x0 x1 x2 x3 x4 x5⟩

/-- Chunks 32 to 39 of the scores. -/
abbrev chunks4 : Oct (FVec F S200x128 .f32) :=
  ⟨r_34 c a1 h1 a2 h2 a3 h3 a4 h4 a5 h5 a6 h6 x0 x1 x2 x3 x4 x5,
      r_35 c a1 h1 a2 h2 a3 h3 a4 h4 a5 h5 a6 h6 x0 x1 x2 x3 x4 x5,
      r_36 c a1 h1 a2 h2 a3 h3 a4 h4 a5 h5 a6 h6 x0 x1 x2 x3 x4 x5,
      r_37 c a1 h1 a2 h2 a3 h3 a4 h4 a5 h5 a6 h6 x0 x1 x2 x3 x4 x5,
      r_38 c a1 h1 a2 h2 a3 h3 a4 h4 a5 h5 a6 h6 x0 x1 x2 x3 x4 x5,
      r_39 c a1 h1 a2 h2 a3 h3 a4 h4 a5 h5 a6 h6 x0 x1 x2 x3 x4 x5,
      r_40 c a1 h1 a2 h2 a3 h3 a4 h4 a5 h5 a6 h6 x0 x1 x2 x3 x4 x5,
      r_41 c a1 h1 a2 h2 a3 h3 a4 h4 a5 h5 a6 h6 x0 x1 x2 x3 x4 x5⟩

/-- Chunks 40 to 47 of the scores. -/
abbrev chunks5 : Oct (FVec F S200x128 .f32) :=
  ⟨r_42 c a1 h1 a2 h2 a3 h3 a4 h4 a5 h5 a6 h6 x0 x1 x2 x3 x4 x5,
      r_43 c a1 h1 a2 h2 a3 h3 a4 h4 a5 h5 a6 h6 x0 x1 x2 x3 x4 x5,
      r_44 c a1 h1 a2 h2 a3 h3 a4 h4 a5 h5 a6 h6 x0 x1 x2 x3 x4 x5,
      r_45 c a1 h1 a2 h2 a3 h3 a4 h4 a5 h5 a6 h6 x0 x1 x2 x3 x4 x5,
      r_46 c a1 h1 a2 h2 a3 h3 a4 h4 a5 h5 a6 h6 x0 x1 x2 x3 x4 x5,
      r_47 c a1 h1 a2 h2 a3 h3 a4 h4 a5 h5 a6 h6 x0 x1 x2 x3 x4 x5,
      r_48 c a1 h1 a2 h2 a3 h3 a4 h4 a5 h5 a6 h6 x0 x1 x2 x3 x4 x5,
      r_49 c a1 h1 a2 h2 a3 h3 a4 h4 a5 h5 a6 h6 x0 x1 x2 x3 x4 x5⟩

/-- Chunks 48 to 55 of the scores. -/
abbrev chunks6 : Oct (FVec F S200x128 .f32) :=
  ⟨r_50 c a1 h1 a2 h2 a3 h3 a4 h4 a5 h5 a6 h6 x0 x1 x2 x3 x4 x5,
      r_51 c a1 h1 a2 h2 a3 h3 a4 h4 a5 h5 a6 h6 x0 x1 x2 x3 x4 x5,
      r_52 c a1 h1 a2 h2 a3 h3 a4 h4 a5 h5 a6 h6 x0 x1 x2 x3 x4 x5,
      r_53 c a1 h1 a2 h2 a3 h3 a4 h4 a5 h5 a6 h6 x0 x1 x2 x3 x4 x5,
      r_54 c a1 h1 a2 h2 a3 h3 a4 h4 a5 h5 a6 h6 x0 x1 x2 x3 x4 x5,
      r_55 c a1 h1 a2 h2 a3 h3 a4 h4 a5 h5 a6 h6 x0 x1 x2 x3 x4 x5,
      r_56 c a1 h1 a2 h2 a3 h3 a4 h4 a5 h5 a6 h6 x0 x1 x2 x3 x4 x5,
      r_57 c a1 h1 a2 h2 a3 h3 a4 h4 a5 h5 a6 h6 x0 x1 x2 x3 x4 x5⟩

/-- Chunks 56 to 63 of the scores. -/
abbrev chunks7 : Oct (FVec F S200x128 .f32) :=
  ⟨r_58 c a1 h1 a2 h2 a3 h3 a4 h4 a5 h5 a6 h6 x0 x1 x2 x3 x4 x5,
      r_59 c a1 h1 a2 h2 a3 h3 a4 h4 a5 h5 a6 h6 x0 x1 x2 x3 x4 x5,
      r_60 c a1 h1 a2 h2 a3 h3 a4 h4 a5 h5 a6 h6 x0 x1 x2 x3 x4 x5,
      r_61 c a1 h1 a2 h2 a3 h3 a4 h4 a5 h5 a6 h6 x0 x1 x2 x3 x4 x5,
      r_62 c a1 h1 a2 h2 a3 h3 a4 h4 a5 h5 a6 h6 x0 x1 x2 x3 x4 x5,
      r_63 c a1 h1 a2 h2 a3 h3 a4 h4 a5 h5 a6 h6 x0 x1 x2 x3 x4 x5,
      r_64 c a1 h1 a2 h2 a3 h3 a4 h4 a5 h5 a6 h6 x0 x1 x2 x3 x4 x5,
      r_65 c a1 h1 a2 h2 a3 h3 a4 h4 a5 h5 a6 h6 x0 x1 x2 x3 x4 x5⟩

/-- Chunks 64 to 71 of the scores. -/
abbrev chunks8 : Oct (FVec F S200x128 .f32) :=
  ⟨r_66 c a1 h1 a2 h2 a3 h3 a4 h4 a5 h5 a6 h6 x0 x1 x2 x3 x4 x5,
      r_67 c a1 h1 a2 h2 a3 h3 a4 h4 a5 h5 a6 h6 x0 x1 x2 x3 x4 x5,
      r_68 c a1 h1 a2 h2 a3 h3 a4 h4 a5 h5 a6 h6 x0 x1 x2 x3 x4 x5,
      r_69 c a1 h1 a2 h2 a3 h3 a4 h4 a5 h5 a6 h6 x0 x1 x2 x3 x4 x5,
      r_70 c a1 h1 a2 h2 a3 h3 a4 h4 a5 h5 a6 h6 x0 x1 x2 x3 x4 x5,
      r_71 c a1 h1 a2 h2 a3 h3 a4 h4 a5 h5 a6 h6 x0 x1 x2 x3 x4 x5,
      r_72 c a1 h1 a2 h2 a3 h3 a4 h4 a5 h5 a6 h6 x0 x1 x2 x3 x4 x5,
      r_73 c a1 h1 a2 h2 a3 h3 a4 h4 a5 h5 a6 h6 x0 x1 x2 x3 x4 x5⟩

/-- Chunks 72 to 79 of the scores. -/
abbrev chunks9 : Oct (FVec F S200x128 .f32) :=
  ⟨r_74 c a1 h1 a2 h2 a3 h3 a4 h4 a5 h5 a6 h6 x0 x1 x2 x3 x4 x5,
      r_75 c a1 h1 a2 h2 a3 h3 a4 h4 a5 h5 a6 h6 x0 x1 x2 x3 x4 x5,
      r_76 c a1 h1 a2 h2 a3 h3 a4 h4 a5 h5 a6 h6 x0 x1 x2 x3 x4 x5,
      r_77 c a1 h1 a2 h2 a3 h3 a4 h4 a5 h5 a6 h6 x0 x1 x2 x3 x4 x5,
      r_78 c a1 h1 a2 h2 a3 h3 a4 h4 a5 h5 a6 h6 x0 x1 x2 x3 x4 x5,
      r_79 c a1 h1 a2 h2 a3 h3 a4 h4 a5 h5 a6 h6 x0 x1 x2 x3 x4 x5,
      r_80 c a1 h1 a2 h2 a3 h3 a4 h4 a5 h5 a6 h6 x0 x1 x2 x3 x4 x5,
      k0_pay94⟩

/-- The kept vectors are the tree of comparators over the eighty chunks. -/
theorem keptOct_eq : keptOct c a1 h1 a2 h2 a3 h3 a4 h4 a5 h5 a6 h6 x0 x1 x2 x3 x4 x5
    = Oct.keep maximumf minimumf (chunks0 c a1 h1 a2 h2 a3 h3 a4 h4 a5 h5 a6 h6 x0 x1 x2 x3 x4 x5) (chunks1 c a1 h1 a2 h2 a3 h3 a4 h4 a5 h5 a6 h6 x0 x1 x2 x3 x4 x5) (chunks2 c a1 h1 a2 h2 a3 h3 a4 h4 a5 h5 a6 h6 x0 x1 x2 x3 x4 x5) (chunks3 c a1 h1 a2 h2 a3 h3 a4 h4 a5 h5 a6 h6 x0 x1 x2 x3 x4 x5) (chunks4 c a1 h1 a2 h2 a3 h3 a4 h4 a5 h5 a6 h6 x0 x1 x2 x3 x4 x5) (chunks5 c a1 h1 a2 h2 a3 h3 a4 h4 a5 h5 a6 h6 x0 x1 x2 x3 x4 x5) (chunks6 c a1 h1 a2 h2 a3 h3 a4 h4 a5 h5 a6 h6 x0 x1 x2 x3 x4 x5) (chunks7 c a1 h1 a2 h2 a3 h3 a4 h4 a5 h5 a6 h6 x0 x1 x2 x3 x4 x5) (chunks8 c a1 h1 a2 h2 a3 h3 a4 h4 a5 h5 a6 h6 x0 x1 x2 x3 x4 x5) (chunks9 c a1 h1 a2 h2 a3 h3 a4 h4 a5 h5 a6 h6 x0 x1 x2 x3 x4 x5) := by
  show Oct.half maximumf (⟨r_279 c a1 h1 a2 h2 a3 h3 a4 h4 a5 h5 a6 h6 x0 x1 x2 x3 x4 x5, r_280 c a1 h1 a2 h2 a3 h3 a4 h4 a5 h5 a6 h6 x0 x1 x2 x3 x4 x5, r_281 c a1 h1 a2 h2 a3 h3 a4 h4 a5 h5 a6 h6 x0 x1 x2 x3 x4 x5, r_282 c a1 h1 a2 h2 a3 h3 a4 h4 a5 h5 a6 h6 x0 x1 x2 x3 x4 x5, r_283 c a1 h1 a2 h2 a3 h3 a4 h4 a5 h5 a6 h6 x0 x1 x2 x3 x4 x5, r_284 c a1 h1 a2 h2 a3 h3 a4 h4 a5 h5 a6 h6 x0 x1 x2 x3 x4 x5, r_285 c a1 h1 a2 h2 a3 h3 a4 h4 a5 h5 a6 h6 x0 x1 x2 x3 x4 x5, minimumf (r_277 c a1 h1 a2 h2 a3 h3 a4 h4 a5 h5 a6 h6 x0 x1 x2 x3 x4 x5) (r_278 c a1 h1 a2 h2 a3 h3 a4 h4 a5 h5 a6 h6 x0 x1 x2 x3 x4 x5)⟩ : Oct (FVec F S200x128 .f32)) ⟨r_258 c a1 h1 a2 h2 a3 h3 a4 h4 a5 h5 a6 h6 x0 x1 x2 x3 x4 x5,
      r_259 c a1 h1 a2 h2 a3 h3 a4 h4 a5 h5 a6 h6 x0 x1 x2 x3 x4 x5,
      r_260 c a1 h1 a2 h2 a3 h3 a4 h4 a5 h5 a6 h6 x0 x1 x2 x3 x4 x5,
      r_261 c a1 h1 a2 h2 a3 h3 a4 h4 a5 h5 a6 h6 x0 x1 x2 x3 x4 x5,
      r_262 c a1 h1 a2 h2 a3 h3 a4 h4 a5 h5 a6 h6 x0 x1 x2 x3 x4 x5,
      r_263 c a1 h1 a2 h2 a3 h3 a4 h4 a5 h5 a6 h6 x0 x1 x2 x3 x4 x5,
      r_264 c a1 h1 a2 h2 a3 h3 a4 h4 a5 h5 a6 h6 x0 x1 x2 x3 x4 x5,
      r_265 c a1 h1 a2 h2 a3 h3 a4 h4 a5 h5 a6 h6 x0 x1 x2 x3 x4 x5⟩ = _
  rw [mergedAll, mergedLow, merged0, merged1, merged2, merged3, merged4, sorted0, sorted1, sorted2, sorted3, sorted4, sorted5,
    sorted6, sorted7, sorted8, sorted9]
  rfl

/-- The offsets of a whole block are zero. -/
theorem zero_offsets : (![0, 0] : Fin 2 → Nat) = fun _ => 0 := funext fun a => by fin_cases a <;> rfl

/-- What the body leaves in the result's buffer: the last selection, over the scores and the rounds' last bound. -/
theorem out_eq (i : grid0.Coords) :
    out0_A_6 c i a1 h1 a2 h2 a3 h3 a4 h4 a5 h5 a6 h6 a7 h7 x0 x1 x2 x3 x4 x5
      = k0_pay11 (BitVec.ofNat 32 (i 0).val) (r_1 c a1 h1 a2 h2 a3 h3 a4 h4 a5 h5 a6 h6 x0 x1 x2 x3 x4 x5)
          (r_286 c a1 h1 a2 h2 a3 h3 a4 h4 a5 h5 a6 h6 x0 x1 x2 x3 x4 x5) := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  exact View.canon_unit_zero zero_offsets _ _

/-- The squashed products of the body, over the blocks it loads. -/
theorem score_eq : r c a1 h1 a2 h2 a3 h3 a4 h4 a5 h5 a6 h6 x0 x1 x2 x3 x4 x5 = k0_pay12 x4 x5 x0 x1 x2 x3 := by
  unfold r
  simp only [View.readAt_eq_ld, h1.read_unread, h2.read_unread, h3.read_unread, h4.read_unread, h5.read_unread,
    h6.read_unread]
  congr 1 <;> exact View.ld_unit_zero zero_offsets _ _

/-- The rounds, from the largest kept value of each row on. -/
theorem rounds_eq :
    r_286 c a1 h1 a2 h2 a3 h3 a4 h4 a5 h5 a6 h6 x0 x1 x2 x3 x4 x5
      = Scf.fold (n := 14) (fun _ m => roundOf (keptOct c a1 h1 a2 h2 a3 h3 a4 h4 a5 h5 a6 h6 x0 x1 x2 x3 x4 x5) m)
          (startOf (keptOct c a1 h1 a2 h2 a3 h3 a4 h4 a5 h5 a6 h6 x0 x1 x2 x3 x4 x5)) := by
  rfl

end Cert.Proof

end

end
-- ==== Proof.Select.lean ====
module

public import Mathlib.Data.EReal.Operations
public import Mathlib.Algebra.Order.BigOperators.Group.Finset
public import proofs.«01_k».proof.Proof.Network

/-! # The threshold of a row

Fifteen rounds of "the largest kept value below the last one" reach the fifteenth distinct kept value; a column whose
score reaches it is one of the row's first fifteen columns in descending order. -/

@[expose] public section

namespace Cert.Proof

/-- The column of lane `l` in chunk `j` of a row of scores, and −1 past the row's end. -/
noncomputable def chunk (f : Fin 10000 → EReal) (l : Fin 128) (j : Fin 80) : EReal :=
  if h : 128 * j.val + l.val < 10000 then f ⟨128 * j.val + l.val, h⟩ else -1

/-- The kept values of a row: eight for each lane. -/
noncomputable def kept (f : Fin 10000 → EReal) (k : Fin 8) (l : Fin 128) : EReal :=
  (Oct.keepAll max min (chunk f l)).get k

/-- Which kept values lie above `x`. -/
noncomputable def above (t : Fin 8 → Fin 128 → EReal) (x : EReal) : Finset EReal :=
  (Finset.univ.image fun q : Fin 8 × Fin 128 => t q.1 q.2).filter (x < ·)

/-- Which values the set of those above `x` holds. -/
theorem mem_above {t : Fin 8 → Fin 128 → EReal} {x y : EReal} : y ∈ above t x ↔ (∃ k l, t k l = y) ∧ x < y := by
  simp [above]

/-- A round: what `below` keeps of a value under the bound `m`, and −1 for the others. -/
noncomputable def below (m y : EReal) : EReal := if y < m then y else -1

/-- What a sequence of rounds bounds: its first entry is the largest kept value, and each next one the largest kept value below
    the last. -/
structure Rounds (t : Fin 8 → Fin 128 → EReal) (m : ℕ → EReal) : Prop where
  zero : ∀ x, x < m 0 ↔ ∃ k l, x < t k l
  succ : ∀ i x, x < m (i + 1) ↔ ∃ k l, x < below (m i) (t k l)

/-- After `i` rounds the bound exceeds `x` exactly when more than `i` distinct kept values do. -/
theorem Rounds.lt_iff {t : Fin 8 → Fin 128 → EReal} {m : ℕ → EReal} (h : Rounds t m) (i : ℕ) :
    ∀ x, -1 ≤ x → (x < m i ↔ i < (above t x).card) := by
  induction i with
  | zero =>
    intro x _
    rw [h.zero, Finset.card_pos]
    exact ⟨fun ⟨k, l, hk⟩ => ⟨_, mem_above.2 ⟨⟨k, l, rfl⟩, hk⟩⟩, fun ⟨y, hy⟩ => by
      obtain ⟨⟨k, l, rfl⟩, hx⟩ := mem_above.1 hy; exact ⟨k, l, hx⟩⟩
  | succ i ih =>
    intro x hx
    rw [h.succ]
    constructor
    · rintro ⟨k, l, hk⟩
      have hy : t k l < m i := by
        by_contra hn
        rw [below, if_neg hn] at hk
        exact absurd hx (not_le.2 hk)
      rw [below, if_pos hy] at hk
      have h1 := (ih (t k l) (hx.trans hk.le)).1 hy
      have h2 : insert (t k l) (above t (t k l)) ⊆ above t x := by
        intro z hz
        rcases Finset.mem_insert.1 hz with rfl | hz
        · exact mem_above.2 ⟨⟨k, l, rfl⟩, hk⟩
        · exact mem_above.2 ⟨(mem_above.1 hz).1, hk.trans (mem_above.1 hz).2⟩
      have h3 := Finset.card_le_card h2
      rw [Finset.card_insert_of_notMem (fun hm => lt_irrefl _ (mem_above.1 hm).2)] at h3
      omega
    · intro hc
      have hne : (above t x).Nonempty := Finset.card_pos.1 (by omega)
      have hmin := Finset.min'_mem _ hne
      set y := (above t x).min' hne with hy
      obtain ⟨⟨k, l, hkl⟩, hxy⟩ := mem_above.1 hmin
      have hsub : (above t x).erase y ⊆ above t y := by
        intro z hz
        have hz' := Finset.mem_erase.1 hz
        exact mem_above.2 ⟨(mem_above.1 hz'.2).1, lt_of_le_of_ne (Finset.min'_le _ _ hz'.2) (Ne.symm hz'.1)⟩
      have h3 := Finset.card_le_card hsub
      rw [Finset.card_erase_of_mem hmin] at h3
      have h4 : y < m i := (ih y (hx.trans hxy.le)).2 (by omega)
      exact ⟨k, l, by rw [hkl, below, if_pos h4]; exact hxy⟩

/-- Sums of accepted entries: a strictly larger sum has an entry the other test refuses. -/
theorem exists_of_sum_lt {ι : Type*} [Fintype ι] {p q : ι → Bool} (h : ∑ i, (q i).toNat < ∑ i, (p i).toNat) :
    ∃ i, p i = true ∧ q i = false := by
  by_contra hn
  push Not at hn
  refine absurd h (not_lt.2 (Finset.sum_le_sum fun i _ => ?_))
  have := hn i
  cases hp : p i <;> cases hq : q i <;> simp_all

/-- Fewer are counted by a predicate that implies another and fails somewhere that the other holds. -/
theorem sum_lt_of {ι : Type*} [Fintype ι] {p q : ι → Bool} (h : ∀ i, q i = true → p i = true) (i : ι) (hp : p i = true)
    (hq : q i = false) : ∑ i, (q i).toNat < ∑ i, (p i).toNat := by
  refine Finset.sum_lt_sum (fun j _ => ?_) ⟨i, Finset.mem_univ _, by simp [hp, hq]⟩
  have := h j
  cases hp : p j <;> cases hq : q j <;> simp_all

/-- The kept values of a lane at or above `y`, counted. -/
theorem kept_le_count (f : Fin 10000 → EReal) (l : Fin 128) (y : EReal) :
    ∑ k, (decide (y ≤ kept f k l)).toNat = min 8 (∑ j, (decide (y ≤ chunk f l j)).toNat) :=
  Oct.keepAll_count (fun z => decide (y ≤ z)) (by simp [le_max_iff]) (by simp [le_min_iff]) _

/-- The kept values of a lane above `y`, counted. -/
theorem kept_lt_count (f : Fin 10000 → EReal) (l : Fin 128) (y : EReal) :
    ∑ k, (decide (y < kept f k l)).toNat = min 8 (∑ j, (decide (y < chunk f l j)).toNat) :=
  Oct.keepAll_count (fun z => decide (y < z)) (by simp [lt_max_iff]) (by simp [lt_min_iff]) _

/-- Every kept value is one of its lane's. -/
theorem kept_attained (f : Fin 10000 → EReal) (k : Fin 8) (l : Fin 128) : ∃ j, chunk f l j = kept f k l := by
  have h : ∑ i, (decide (kept f k l < kept f i l)).toNat < ∑ i, (decide (kept f k l ≤ kept f i l)).toNat :=
    sum_lt_of (p := fun i => decide (kept f k l ≤ kept f i l)) (q := fun i => decide (kept f k l < kept f i l))
      (fun i hi => by simpa using (le_of_lt (by simpa using hi))) k (by simp) (by simp)
  rw [kept_le_count, kept_lt_count] at h
  have h' : ∑ j, (decide (kept f k l < chunk f l j)).toNat < ∑ j, (decide (kept f k l ≤ chunk f l j)).toNat := by omega
  obtain ⟨j, h1, h2⟩ := exists_of_sum_lt (p := fun j => decide (kept f k l ≤ chunk f l j))
    (q := fun j => decide (kept f k l < chunk f l j)) h'
  exact ⟨j, le_antisymm (by simpa using h2) (by simpa using h1)⟩

/-- A value of a lane with at most eight at or above it is kept. -/
theorem kept_of_few (f : Fin 10000 → EReal) (l : Fin 128) (j : Fin 80)
    (h : ∑ i, (decide (chunk f l j ≤ chunk f l i)).toNat ≤ 8) : ∃ k, kept f k l = chunk f l j := by
  have h1 : ∑ i, (decide (chunk f l j < chunk f l i)).toNat < ∑ i, (decide (chunk f l j ≤ chunk f l i)).toNat :=
    sum_lt_of (p := fun i => decide (chunk f l j ≤ chunk f l i)) (q := fun i => decide (chunk f l j < chunk f l i))
      (fun i hi => by simpa using (le_of_lt (by simpa using hi))) j (by simp) (by simp)
  have h2 := kept_le_count f l (chunk f l j)
  have h3 := kept_lt_count f l (chunk f l j)
  obtain ⟨k, h4, h5⟩ := exists_of_sum_lt (p := fun k => decide (chunk f l j ≤ kept f k l))
    (q := fun k => decide (chunk f l j < kept f k l)) (by omega)
  exact ⟨k, le_antisymm (by simpa using h5) (by simpa using h4)⟩

/-- A row's columns in descending order of score. -/
structure Order (f : Fin 10000 → EReal) (σ : Fin 10000 → Fin 10000) : Prop where
  inj : Function.Injective σ
  surj : Function.Surjective σ
  desc : ∀ i j, i < j → f (σ j) ≤ f (σ i)

/-- What the precondition says of a row: at most fifteen positive scores, or the first sixteen scores strictly descending and no lane
    holding more than eight of the first fifteen columns. -/
def Separated (f : Fin 10000 → EReal) (σ : Fin 10000 → Fin 10000) : Prop :=
  ∀ i : Fin 15, f (σ 15) ≤ 0 ∨
    (f (σ ⟨i.val + 1, by omega⟩) < f (σ ⟨i.val, by omega⟩)
      ∧ ∑ j : Fin 15, (decide ((σ ⟨j.val, by omega⟩).val % 128 = (σ ⟨i.val, by omega⟩).val % 128)).toNat ≤ 8)

/-- Earlier in the order is no less. -/
theorem Order.le {f : Fin 10000 → EReal} {σ : Fin 10000 → Fin 10000} (h : Order f σ) {i j : Fin 10000} (hij : i ≤ j) :
    f (σ j) ≤ f (σ i) := by
  rcases hij.lt_or_eq with h1 | rfl
  · exact h.desc _ _ h1
  · exact le_rfl

/-- A chunk's entry above −1 is the score of a column of that lane. -/
theorem chunk_eq {f : Fin 10000 → EReal} {l : Fin 128} {j : Fin 80} (h : -1 < chunk f l j) :
    ∃ c : Fin 10000, c.val = 128 * j.val + l.val ∧ chunk f l j = f c := by
  unfold chunk at h ⊢
  split at h
  · rename_i hl; exact ⟨⟨_, hl⟩, rfl, by rw [dif_pos hl]⟩
  · exact absurd h (lt_irrefl _)

/-- A column's score is found in its chunk at its lane. -/
theorem chunk_at (f : Fin 10000 → EReal) (c : Fin 10000) :
    chunk f ⟨c.val % 128, Nat.mod_lt _ (by omega)⟩ ⟨c.val / 128, by omega⟩ = f c := by
  have h : 128 * (c.val / 128) + c.val % 128 = c.val := Nat.div_add_mod _ _
  unfold chunk
  rw [dif_pos (by show 128 * (c.val / 128) + c.val % 128 < 10000; omega)]
  congr 1; exact Fin.ext h

/-- A column among the first fifteen has at most fourteen kept values above its score. -/
theorem above_le_of_first {f : Fin 10000 → EReal} {σ : Fin 10000 → Fin 10000} (hf : ∀ c, 0 ≤ f c) (h : Order f σ) (i : Fin 10000)
    (hi : i.val < 15) : (above (kept f) (f (σ i))).card ≤ 14 := by
  have hsub : above (kept f) (f (σ i)) ⊆ (Finset.univ.filter fun j : Fin 10000 => j < i).image fun j => f (σ j) := by
    intro y hy
    obtain ⟨⟨k, l, rfl⟩, hlt⟩ := mem_above.1 hy
    obtain ⟨j, hj⟩ := kept_attained f k l
    have hneg : (-1 : EReal) < 0 := by norm_num
    obtain ⟨c, _, hc⟩ := chunk_eq (f := f) (l := l) (j := j) (by rw [hj]; exact (hneg.trans_le (hf _)).trans hlt)
    obtain ⟨q, rfl⟩ := h.surj c
    rw [hj] at hc
    rw [hc] at hlt ⊢
    refine Finset.mem_image.2 ⟨q, Finset.mem_filter.2 ⟨Finset.mem_univ _, ?_⟩, rfl⟩
    by_contra hn
    exact absurd (h.le (not_lt.1 hn)) (not_le.2 hlt)
  refine (Finset.card_le_card hsub).trans (Finset.card_image_le.trans ?_)
  have : (Finset.univ.filter fun j : Fin 10000 => j < i) = Finset.Iio i := by ext; simp
  rw [this, Fin.card_Iio]; omega

/-- In a separated row each of the first fifteen scores is kept. -/
theorem first_kept {f : Fin 10000 → EReal} {σ : Fin 10000 → Fin 10000} (hf : ∀ c, 0 ≤ f c) (h : Order f σ)
    (hs : ∀ i : Fin 15, f (σ ⟨i.val + 1, by omega⟩) < f (σ ⟨i.val, by omega⟩)
      ∧ ∑ j : Fin 15, (decide ((σ ⟨j.val, by omega⟩).val % 128 = (σ ⟨i.val, by omega⟩).val % 128)).toNat ≤ 8) (i : Fin 15) :
    ∃ k l, kept f k l = f (σ ⟨i.val, by omega⟩) := by
  set c := σ ⟨i.val, by omega⟩ with hc
  have hat := chunk_at f c
  refine (fun ⟨k, hk⟩ => ⟨k, _, hk.trans hat⟩) (kept_of_few f ⟨c.val % 128, Nat.mod_lt _ (by omega)⟩ ⟨c.val / 128, by omega⟩ ?_)
  rw [hat]
  refine le_trans ?_ (hs i).2
  rw [← hc]
  have e1 (n : ℕ) (p : Fin n → Prop) [DecidablePred p] : ∑ j, (decide (p j)).toNat = (Finset.univ.filter p).card := by
    rw [Finset.card_filter]; refine Finset.sum_congr rfl fun j _ => ?_
    by_cases hp : p j <;> simp [hp]
  rw [e1, e1]
  have key (j : Fin 80) (hj : f c ≤ chunk f ⟨c.val % 128, Nat.mod_lt _ (by omega)⟩ j) :
      ∃ q : Fin 15, (σ ⟨q.val, by omega⟩).val = 128 * j.val + c.val % 128 := by
    have hneg : (-1 : EReal) < 0 := by norm_num
    obtain ⟨c', hc', he⟩ := chunk_eq ((hneg.trans_le (hf c)).trans_le hj)
    obtain ⟨q, rfl⟩ := h.surj c'
    rw [he] at hj
    have hq : q.val ≤ i.val := by
      by_contra hn
      have h1 : f (σ q) ≤ f (σ ⟨i.val + 1, by omega⟩) := h.le (Fin.mk_le_of_le_val (by omega))
      exact absurd ((hs i).1) (not_lt.2 (hj.trans h1))
    exact ⟨⟨q.val, by omega⟩, hc'⟩
  refine Finset.card_le_card_of_injOn (fun j => if hj : f c ≤ chunk f ⟨c.val % 128, Nat.mod_lt _ (by omega)⟩ j then (key j hj).choose else i)
    (fun j hj => ?_) (fun j hj j' hj' he => ?_)
  · have hj := (Finset.mem_filter.1 hj).2
    have hsp := (key j hj).choose_spec
    simp only [dif_pos hj, Finset.coe_filter, Finset.mem_univ, true_and, Set.mem_setOf_eq]
    rw [hsp]; omega
  · have hj := (Finset.mem_filter.1 hj).2
    have hj' := (Finset.mem_filter.1 hj').2
    simp only [dif_pos hj, dif_pos hj'] at he
    have h1 := (key j hj).choose_spec
    have h2 := (key j' hj').choose_spec
    rw [he] at h1
    exact Fin.ext (by omega)

/-- In a separated row a column with a positive score reaches the threshold exactly when it is one of the first fifteen. -/
theorem reaches_iff {f : Fin 10000 → EReal} {σ : Fin 10000 → Fin 10000} {m : ℕ → EReal} (hf : ∀ c, 0 ≤ f c) (h : Order f σ)
    (hs : Separated f σ) (hm : Rounds (kept f) m) (i : Fin 10000) (hpos : 0 < f (σ i)) : m 14 ≤ f (σ i) ↔ i.val < 15 := by
  have hneg : (-1 : EReal) ≤ 0 := by norm_num
  rw [← not_lt, hm.lt_iff 14 _ (hneg.trans (hf _))]
  constructor
  · intro hle
    by_contra hn
    have h15 : f (σ i) ≤ f (σ 15) := h.le (Fin.le_def.2 (by show 15 ≤ i.val; omega))
    have hs' : ∀ i : Fin 15, f (σ ⟨i.val + 1, by omega⟩) < f (σ ⟨i.val, by omega⟩)
      ∧ ∑ j : Fin 15, (decide ((σ ⟨j.val, by omega⟩).val % 128 = (σ ⟨i.val, by omega⟩).val % 128)).toNat ≤ 8 := fun i =>
      (hs i).resolve_left (fun hz => absurd (hpos.trans_le (h15.trans hz)) (lt_irrefl _))
    have hstrict (a : Fin 15) (b : ℕ) (hb : b < 10000) (hab : a.val < b) : f (σ ⟨b, hb⟩) < f (σ ⟨a.val, by omega⟩) :=
      lt_of_le_of_lt (h.le (Fin.le_def.2 (by show a.val + 1 ≤ b; omega))) (hs' a).1
    have hsub : (Finset.univ.image fun a : Fin 15 => f (σ ⟨a.val, by omega⟩)) ⊆ above (kept f) (f (σ i)) := by
      intro y hy
      obtain ⟨a, _, rfl⟩ := Finset.mem_image.1 hy
      exact mem_above.2 ⟨first_kept hf h hs' a, hstrict a i.val i.isLt (by omega)⟩
    have hcard := Finset.card_le_card hsub
    rw [Finset.card_image_of_injective, Finset.card_univ, Fintype.card_fin] at hcard
    · omega
    · intro a b hab
      rcases lt_trichotomy a.val b.val with hl | he | hl
      · exact absurd hab (ne_of_gt (hstrict a b.val (by omega) hl))
      · exact Fin.ext he
      · exact absurd hab (ne_of_lt (hstrict b a.val (by omega) hl))
  · intro hi
    have := above_le_of_first hf h i hi
    omega

end Cert.Proof

end
-- ==== Proof.Block.lean ====
module

public import proofs.«01_k».proof.Proof.Wires
public import proofs.«01_k».proof.Proof.Select
public import Idealize.ShloMosaic.Lib.Pointwise
public import Idealize.ShloMosaic.Lib.IdealHost

/-! # A block of the kernel's result, entry by entry, over the extended reals -/

@[expose] public section

noncomputable section

namespace Cert.Proof

open Idealize.ShloMosaic Cert.KernelIdeal Cert.KernelIdeal.Gen
open Cert.KernelIdeal.Gen.kernelRun0_A.sl

/-- The word of −1. -/
theorem word_neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The word of −∞. -/
theorem word_bot : Ideal.ofBits .f32 0xFF800000#32 = ⊥ := by
  simp [Ideal.ofBits, Ideal.ieee]

/-- The word of one half, kept as it is. -/
abbrev halfWord : EReal := Ideal.ofBits .f32 0x3F000000#32

/-- The kernel's score of a row and a column of the block, before the negative ones are cut off. -/
theorem score_apply (x0 x1 : Vec Ideal S200x10 .f32) (x2 x3 : Vec Ideal S10x10000 .f32) (x4 x5 : Vec Ideal S10x10 .f32)
    (a : Fin 200) (b : Fin 10000) :
    k0_pay12 (F := Ideal) x4 x5 x0 x1 x2 x3 (ix2 a b)
      = Ideal.tanh (halfWord * (∑ k : Fin 10, Ideal.tanh (halfWord * ∑ x : Fin 10, x0 (ix2 a x) * x4 (ix2 k x))
            * Ideal.tanh (halfWord * ∑ x : Fin 10, x5 (ix2 k x) * x3 (ix2 x b))
          + ∑ k : Fin 10, (0 - Ideal.tanh (halfWord * ∑ x : Fin 10, x1 (ix2 a x) * x5 (ix2 k x)))
            * Ideal.tanh (halfWord * ∑ x : Fin 10, x4 (ix2 k x) * x2 (ix2 x b)))) := by
  pointwise [k0_pay12]

/-- The scores with the negative ones cut off. -/
theorem relu_apply (z : Vec Ideal S200x10000 .f32) (a : Fin 200) (b : Fin 10000) :
    k0_pay14 (F := Ideal) z k0_pay13 (ix2 a b) = max (z (ix2 a b)) 0 := by
  pointwise [k0_pay14, k0_pay13]

/-- The last selection: one on the diagonal, elsewhere the scores that reach their row's bound. -/
theorem last_apply (t : ℕ) (ht : t < 50) (s : Vec Ideal S200x10000 .f32) (m : Vec Ideal S200x1 .f32) (a : Fin 200)
    (b : Fin 10000) :
    k0_pay11 (F := Ideal) (BitVec.ofNat 32 t) s m (ix2 a b)
      = if b.val = 200 * t + a.val then 1 else if m (ix2 a 0) ≤ s (ix2 a b) then s (ix2 a b) else 0 := by
  pointwise [k0_pay11]
  have e : (BitVec.ofNat 32 b.val - BitVec.ofNat 32 a.val = BitVec.ofNat 32 t * 200#32) ↔ b.val = 200 * t + a.val := by
    have hb := b.isLt
    have ha := a.isLt
    rw [← BitVec.toNat_inj, BitVec.toNat_sub, BitVec.toNat_mul]
    simp only [BitVec.toNat_ofNat]
    omega
  by_cases h : b.val = 200 * t + a.val
  · rw [if_pos h]
    have := e.2 h
    simp only [IntOp.cmpi, IntOp.subi, Scalar.muli, IntOp.muli, this]
    simp [Scalar.select]
  · rw [if_neg h]
    have := fun h' => h (e.1 h')
    simp only [IntOp.cmpi, IntOp.subi, Scalar.muli, IntOp.muli, beq_eq_false_iff_ne.mpr this]
    simp [Scalar.select]

/-- A round's test of one entry. -/
theorem below_apply (m : FVec Ideal S200x1 .f32) (t : FVec Ideal S200x128 .f32) (a : Fin 200) (l : Fin 128) :
    belowOf m t (ix2 a l) = below (m (ix2 a 0)) (t (ix2 a l)) := by
  pointwise [belowOf]
  rw [word_neg_one]; rfl

/-- The largest entry of a row exceeds `x` exactly when one of its entries does. -/
theorem start_lt (t : Oct (FVec Ideal S200x128 .f32)) (a : Fin 200) (x : EReal) :
    x < startOf t (ix2 a 0) ↔ ∃ k l, x < t.get k (ix2 a l) := by
  pointwise [startOf]
  rw [word_bot, Finset.lt_fold_max]
  simp only [not_lt_bot, false_or, Finset.mem_univ, true_and, lt_max_iff]
  constructor
  · rintro ⟨l, h⟩
    rcases h with ((((((h | h) | h) | h) | h) | h) | h) | h
    exacts [⟨0, l, h⟩, ⟨1, l, h⟩, ⟨2, l, h⟩, ⟨3, l, h⟩, ⟨4, l, h⟩, ⟨5, l, h⟩, ⟨6, l, h⟩, ⟨7, l, h⟩]
  · rintro ⟨k, l, h⟩
    refine ⟨l, ?_⟩
    fin_cases k <;> simp only [Oct.get] at h <;> tauto

/-- A full chunk of the scores. -/
theorem slice_chunk (s : FVec Ideal S200x10000 .f32) (j : Fin 80) (o : ℕ) (ho : o = 128 * j.val) (hj : j.val < 78)
    (h : S200x10000.Slices ![0, o] S200x128) (a : Fin 200) (l : Fin 128) :
    extractStridedSlice S200x128 ![0, o] s h (ix2 a l) = chunk (fun b => s (ix2 a b)) l j := by
  have hl : 128 * j.val + l.val < 10000 := by omega
  subst ho
  pointwise []
  rw [chunk, dif_pos hl]

/-- The last chunk, padded with −1. -/
theorem pad_chunk (s : FVec Ideal S200x10000 .f32) (a : Fin 200) (l : Fin 128) :
    k0_pay93 s (ix2 a l) = chunk (fun b => s (ix2 a b)) l 78 := by
  pointwise [k0_pay93]
  rw [word_neg_one]
  unfold chunk
  have e : 128 * (78 : Fin 80).val + l.val = 9984 + l.val := rfl
  by_cases h : l.val < 16
  · rw [dif_pos h, dif_pos (by rw [e]; omega)]; rfl
  · rw [dif_neg h, dif_neg (by rw [e]; omega)]

/-- The chunk past the row's end. -/
theorem none_chunk (s : FVec Ideal S200x10000 .f32) (a : Fin 200) (l : Fin 128) :
    k0_pay94 (F := Ideal) (ix2 a l) = chunk (fun b => s (ix2 a b)) l 79 := by
  pointwise [k0_pay94]
  rw [word_neg_one]
  unfold chunk
  have e : 128 * (79 : Fin 80).val + l.val = 10112 + l.val := rfl
  rw [dif_neg (by rw [e]; omega)]

/-- Eight equalities make one of the eights. -/
theorem oct_eq {α : Type*} {a0 a1 a2 a3 a4 a5 a6 a7 b0 b1 b2 b3 b4 b5 b6 b7 : α} (e0 : a0 = b0) (e1 : a1 = b1) (e2 : a2 = b2)
    (e3 : a3 = b3) (e4 : a4 = b4) (e5 : a5 = b5) (e6 : a6 = b6) (e7 : a7 = b7) :
    (⟨a0, a1, a2, a3, a4, a5, a6, a7⟩ : Oct α) = ⟨b0, b1, b2, b3, b4, b5, b6, b7⟩ := by
  subst e0 e1 e2 e3 e4 e5 e6 e7; rfl

variable (c : Dev nD)
  (a1 : Memref sig .tc .vmem S200x10 .f32) (h1 : a1.IsWhole) (a2 : Memref sig .tc .vmem S200x10 .f32) (h2 : a2.IsWhole)
  (a3 : Memref sig .tc .vmem S10x10000 .f32) (h3 : a3.IsWhole) (a4 : Memref sig .tc .vmem S10x10000 .f32) (h4 : a4.IsWhole)
  (a5 : Memref sig .tc .vmem S10x10 .f32) (h5 : a5.IsWhole) (a6 : Memref sig .tc .vmem S10x10 .f32) (h6 : a6.IsWhole)
  (a7 : Memref sig .tc .vmem S200x10000 .f32) (h7 : a7.IsWhole)
  (x0 : Vec Ideal S200x10 .f32) (x1 : Vec Ideal S200x10 .f32) (x2 : Vec Ideal S10x10000 .f32) (x3 : Vec Ideal S10x10000 .f32)
  (x4 : Vec Ideal S10x10 .f32) (x5 : Vec Ideal S10x10 .f32)

/-- The score block the body computes from its six input blocks. -/
abbrev scores : FVec Ideal S200x10000 .f32 := r_1 c a1 h1 a2 h2 a3 h3 a4 h4 a5 h5 a6 h6 x0 x1 x2 x3 x4 x5

/-- The first eight chunks of a row, read at lane `l`. -/
theorem chunks0_apply (a : Fin 200) (l : Fin 128) :
    (chunks0 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 0 := by
  let s := scores c a1 h1 a2 h2 a3 h3 a4 h4 a5 h5 a6 h6 x0 x1 x2 x3 x4 x5
  exact oct_eq
    (slice_chunk s 0 0 rfl (by decide) (by decide) a l)
    (slice_chunk s 1 128 rfl (by decide) (by decide) a l)
    (slice_chunk s 2 256 rfl (by decide) (by decide) a l)
    (slice_chunk s 3 384 rfl (by decide) (by decide) a l)
    (slice_chunk s 4 512 rfl (by decide) (by decide) a l)
    (slice_chunk s 5 640 rfl (by decide) (by decide) a l)
    (slice_chunk s 6 768 rfl (by decide) (by decide) a l)
    (slice_chunk s 7 896 rfl (by decide) (by decide) a l)

/-- The second eight chunks of a row, read at lane `l`. -/
theorem chunks1_apply (a : Fin 200) (l : Fin 128) :
    (chunks1 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 1 := by
  let s := scores c a1 h1 a2 h2 a3 h3 a4 h4 a5 h5 a6 h6 x0 x1 x2 x3 x4 x5
  exact oct_eq
    (slice_chunk s 8 1024 rfl (by decide) (by decide) a l)
    (slice_chunk s 9 1152 rfl (by decide) (by decide) a l)
    (slice_chunk s 10 1280 rfl (by decide) (by decide) a l)
    (slice_chunk s 11 1408 rfl (by decide) (by decide) a l)
    (slice_chunk s 12 1536 rfl (by decide) (by decide) a l)
    (slice_chunk s 13 1664 rfl (by decide) (by decide) a l)
    (slice_chunk s 14 1792 rfl (by decide) (by decide) a l)
    (slice_chunk s 15 1920 rfl (by decide) (by decide) a l)

/-- The third eight chunks of a row, read at lane `l`. -/
theorem chunks2_apply (a : Fin 200) (l : Fin 128) :
    (chunks2 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 2 := by
  let s := scores c a1 h1 a2 h2 a3 h3 a4 h4 a5 h5 a6 h6 x0 x1 x2 x3 x4 x5
  exact oct_eq
    (slice_chunk s 16 2048 rfl (by decide) (by decide) a l)
    (slice_chunk s 17 2176 rfl (by decide) (by decide) a l)
    (slice_chunk s 18 2304 rfl (by decide) (by decide) a l)
    (slice_chunk s 19 2432 rfl (by decide) (by decide) a l)
    (slice_chunk s 20 2560 rfl (by decide) (by decide) a l)
    (slice_chunk s 21 2688 rfl (by decide) (by decide) a l)
    (slice_chunk s 22 2816 rfl (by decide) (by decide) a l)
    (slice_chunk s 23 2944 rfl (by decide) (by decide) a l)

/-- The fourth eight chunks of a row, read at lane `l`. -/
theorem chunks3_apply (a : Fin 200) (l : Fin 128) :
    (chunks3 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 3 := by
  let s := scores c a1 h1 a2 h2 a3 h3 a4 h4 a5 h5 a6 h6 x0 x1 x2 x3 x4 x5
  exact oct_eq
    (slice_chunk s 24 3072 rfl (by decide) (by decide) a l)
    (slice_chunk s 25 3200 rfl (by decide) (by decide) a l)
    (slice_chunk s 26 3328 rfl (by decide) (by decide) a l)
    (slice_chunk s 27 3456 rfl (by decide) (by decide) a l)
    (slice_chunk s 28 3584 rfl (by decide) (by decide) a l)
    (slice_chunk s 29 3712 rfl (by decide) (by decide) a l)
    (slice_chunk s 30 3840 rfl (by decide) (by decide) a l)
    (slice_chunk s 31 3968 rfl (by decide) (by decide) a l)

/-- The fifth eight chunks of a row, read at lane `l`. -/
theorem chunks4_apply (a : Fin 200) (l : Fin 128) :
    (chunks4 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 4 := by
  let s := scores c a1 h1 a2 h2 a3 h3 a4 h4 a5 h5 a6 h6 x0 x1 x2 x3 x4 x5
  exact oct_eq
    (slice_chunk s 32 4096 rfl (by decide) (by decide) a l)
    (slice_chunk s 33 4224 rfl (by decide) (by decide) a l)
    (slice_chunk s 34 4352 rfl (by decide) (by decide) a l)
    (slice_chunk s 35 4480 rfl (by decide) (by decide) a l)
    (slice_chunk s 36 4608 rfl (by decide) (by decide) a l)
    (slice_chunk s 37 4736 rfl (by decide) (by decide) a l)
    (slice_chunk s 38 4864 rfl (by decide) (by decide) a l)
    (slice_chunk s 39 4992 rfl (by decide) (by decide) a l)

/-- The sixth eight chunks of a row, read at lane `l`. -/
theorem chunks5_apply (a : Fin 200) (l : Fin 128) :
    (chunks5 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 5 := by
  let s := scores c a1 h1 a2 h2 a3 h3 a4 h4 a5 h5 a6 h6 x0 x1 x2 x3 x4 x5
  exact oct_eq
    (slice_chunk s 40 5120 rfl (by decide) (by decide) a l)
    (slice_chunk s 41 5248 rfl (by decide) (by decide) a l)
    (slice_chunk s 42 5376 rfl (by decide) (by decide) a l)
    (slice_chunk s 43 5504 rfl (by decide) (by decide) a l)
    (slice_chunk s 44 5632 rfl (by decide) (by decide) a l)
    (slice_chunk s 45 5760 rfl (by decide) (by decide) a l)
    (slice_chunk s 46 5888 rfl (by decide) (by decide) a l)
    (slice_chunk s 47 6016 rfl (by decide) (by decide) a l)

/-- The seventh eight chunks of a row, read at lane `l`. -/
theorem chunks6_apply (a : Fin 200) (l : Fin 128) :
    (chunks6 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 6 := by
  let s := scores c a1 h1 a2 h2 a3 h3 a4 h4 a5 h5 a6 h6 x0 x1 x2 x3 x4 x5
  exact oct_eq
    (slice_chunk s 48 6144 rfl (by decide) (by decide) a l)
    (slice_chunk s 49 6272 rfl (by decide) (by decide) a l)
    (slice_chunk s 50 6400 rfl (by decide) (by decide) a l)
    (slice_chunk s 51 6528 rfl (by decide) (by decide) a l)
    (slice_chunk s 52 6656 rfl (by decide) (by decide) a l)
    (slice_chunk s 53 6784 rfl (by decide) (by decide) a l)
    (slice_chunk s 54 6912 rfl (by decide) (by decide) a l)
    (slice_chunk s 55 7040 rfl (by decide) (by decide) a l)

/-- The eighth eight chunks of a row, read at lane `l`. -/
theorem chunks7_apply (a : Fin 200) (l : Fin 128) :
    (chunks7 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 7 := by
  let s := scores c a1 h1 a2 h2 a3 h3 a4 h4 a5 h5 a6 h6 x0 x1 x2 x3 x4 x5
  exact oct_eq
    (slice_chunk s 56 7168 rfl (by decide) (by decide) a l)
    (slice_chunk s 57 7296 rfl (by decide) (by decide) a l)
    (slice_chunk s 58 7424 rfl (by decide) (by decide) a l)
    (slice_chunk s 59 7552 rfl (by decide) (by decide) a l)
    (slice_chunk s 60 7680 rfl (by decide) (by decide) a l)
    (slice_chunk s 61 7808 rfl (by decide) (by decide) a l)
    (slice_chunk s 62 7936 rfl (by decide) (by decide) a l)
    (slice_chunk s 63 8064 rfl (by decide) (by decide) a l)

/-- The ninth eight chunks of a row, read at lane `l`. -/
theorem chunks8_apply (a : Fin 200) (l : Fin 128) :
    (chunks8 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 8 := by
  let s := scores c a1 h1 a2 h2 a3 h3 a4 h4 a5 h5 a6 h6 x0 x1 x2 x3 x4 x5
  exact oct_eq
    (slice_chunk s 64 8192 rfl (by decide) (by decide) a l)
    (slice_chunk s 65 8320 rfl (by decide) (by decide) a l)
    (slice_chunk s 66 8448 rfl (by decide) (by decide) a l)
    (slice_chunk s 67 8576 rfl (by decide) (by decide) a l)
    (slice_chunk s 68 8704 rfl (by decide) (by decide) a l)
    (slice_chunk s 69 8832 rfl (by decide) (by decide) a l)
    (slice_chunk s 70 8960 rfl (by decide) (by decide) a l)
    (slice_chunk s 71 9088 rfl (by decide) (by decide) a l)

/-- The last eight chunks of a row, read at lane `l`. -/
theorem chunks9_apply (a : Fin 200) (l : Fin 128) :
    (chunks9 c a1 h1 a2 h2 a3 h3 a4 h4 a5 h5 a6 h6 x0 x1 x2 x3 x4 x5).map (fun v => v (ix2 a l))
      = Oct.group (chunk (fun b => scores c a1 h1 a2 h2 a3 h3 a4 h4 a5 h5 a6 h6 x0 x1 x2 x3 x4 x5 (ix2 a b)) l) 9 := by
  let s := scores c a1 h1 a2 h2 a3 h3 a4 h4 a5 h5 a6 h6 x0 x1 x2 x3 x4 x5
  exact oct_eq
    (slice_chunk s 72 9216 rfl (by decide) (by decide) a l)
    (slice_chunk s 73 9344 rfl (by decide) (by decide) a l)
    (slice_chunk s 74 9472 rfl (by decide) (by decide) a l)
    (slice_chunk s 75 9600 rfl (by decide) (by decide) a l)
    (slice_chunk s 76 9728 rfl (by decide) (by decide) a l)
    (slice_chunk s 77 9856 rfl (by decide) (by decide) a l)
    (pad_chunk s a l)
    (none_chunk s a l)

/-- The kept vectors at a row and a lane are the kept values of that row of the scores. -/
theorem keptOct_apply (a : Fin 200) (l : Fin 128) (k : Fin 8) :
    (keptOct c a1 h1 a2 h2 a3 h3 a4 h4 a5 h5 a6 h6 x0 x1 x2 x3 x4 x5).get k (ix2 a l)
      = kept (fun b => scores c a1 h1 a2 h2 a3 h3 a4 h4 a5 h5 a6 h6 x0 x1 x2 x3 x4 x5 (ix2 a b)) k l := by
  have e : (keptOct c a1 h1 a2 h2 a3 h3 a4 h4 a5 h5 a6 h6 x0 x1 x2 x3 x4 x5).map (fun v => v (ix2 a l))
      = Oct.keepAll max min (chunk (fun b => scores c a1 h1 a2 h2 a3 h3 a4 h4 a5 h5 a6 h6 x0 x1 x2 x3 x4 x5 (ix2 a b)) l) := by
    rw [keptOct_eq, Oct.map_keep (mx' := max) (mn' := min) (fun _ _ => rfl) (fun _ _ => rfl)]
    simp only [chunks0_apply, chunks1_apply, chunks2_apply, chunks3_apply, chunks4_apply, chunks5_apply, chunks6_apply, chunks7_apply, chunks8_apply, chunks9_apply]
    rfl
  unfold kept
  rw [← e]
  fin_cases k <;> rfl

/-- The bound after each round, at a row. -/
def bound (a : Fin 200) (i : ℕ) : EReal :=
  ((roundOf (keptOct c a1 h1 a2 h2 a3 h3 a4 h4 a5 h5 a6 h6 x0 x1 x2 x3 x4 x5))^[i]
    (startOf (keptOct c a1 h1 a2 h2 a3 h3 a4 h4 a5 h5 a6 h6 x0 x1 x2 x3 x4 x5))) (ix2 a 0)

/-- The bounds of a row are its rounds over the kept values. -/
theorem bound_rounds (a : Fin 200) :
    Rounds (kept (fun b => scores c a1 h1 a2 h2 a3 h3 a4 h4 a5 h5 a6 h6 x0 x1 x2 x3 x4 x5 (ix2 a b))) (bound c a1 h1 a2 h2 a3 h3 a4 h4 a5 h5 a6 h6 x0 x1 x2 x3 x4 x5 a) where
  zero x := by
    unfold bound
    rw [Function.iterate_zero, id, start_lt]
    simp only [keptOct_apply]
  succ i x := by
    unfold bound
    rw [Function.iterate_succ_apply', roundOf, start_lt]
    refine exists_congr fun k => exists_congr fun l => ?_
    rw [← keptOct_apply, ← below_apply]
    fin_cases k <;> rfl

/-- The rounds' last bound. -/
theorem last_bound (a : Fin 200) : r_286 c a1 h1 a2 h2 a3 h3 a4 h4 a5 h5 a6 h6 x0 x1 x2 x3 x4 x5 (ix2 a 0) = bound c a1 h1 a2 h2 a3 h3 a4 h4 a5 h5 a6 h6 x0 x1 x2 x3 x4 x5 a 14 := by
  rw [rounds_eq, Scf.fold_eq, List.foldl_const, List.length_finRange, bound]

/-- The block's value: one on the diagonal, elsewhere the scores that reach the fourteenth bound. -/
theorem out_apply (i : grid0.Coords) (a : Fin 200) (b : Fin 10000) :
    out0_A_6 c i a1 h1 a2 h2 a3 h3 a4 h4 a5 h5 a6 h6 a7 h7 x0 x1 x2 x3 x4 x5 (ix2 a b)
      = if b.val = 200 * (i 0).val + a.val then 1
        else if bound c a1 h1 a2 h2 a3 h3 a4 h4 a5 h5 a6 h6 x0 x1 x2 x3 x4 x5 a 14 ≤ scores c a1 h1 a2 h2 a3 h3 a4 h4 a5 h5 a6 h6 x0 x1 x2 x3 x4 x5 (ix2 a b) then scores c a1 h1 a2 h2 a3 h3 a4 h4 a5 h5 a6 h6 x0 x1 x2 x3 x4 x5 (ix2 a b) else 0 := by
  rw [out_eq, last_apply _ (i 0).isLt, last_bound]

/-- The score block at a row and a column. -/
theorem scores_apply (a : Fin 200) (b : Fin 10000) :
    scores c a1 h1 a2 h2 a3 h3 a4 h4 a5 h5 a6 h6 x0 x1 x2 x3 x4 x5 (ix2 a b)
      = max (k0_pay12 (F := Ideal) x4 x5 x0 x1 x2 x3 (ix2 a b)) 0 := by
  rw [← score_eq c a1 h1 a2 h2 a3 h3 a4 h4 a5 h5 a6 h6 x0 x1 x2 x3 x4 x5]
  exact relu_apply _ a b

end Cert.Proof

end

end
-- ==== Proof.Score.lean ====
module

public import proofs.«01_k».proof.Proof.Block

/-! # The scores of the nodes, over the extended reals

A node's two hidden vectors are `tanh` of half a product of its embedding and a weight matrix. The score of two nodes is
`tanh` of half the difference of the two products of their hidden vectors, with the negative scores cut off. -/

@[expose] public section

noncomputable section

namespace Cert.Proof

open Idealize.ShloMosaic

/-- A node's hidden vector. -/
def hidden (u : Fin 10000 → Fin 10 → EReal) (w : Fin 10 → Fin 10 → EReal) (i : Fin 10000) (k : Fin 10) : EReal :=
  Ideal.tanh (halfWord * ∑ x : Fin 10, u i x * w k x)

/-- The score of node `j` for node `i`, the negative ones cut off. -/
def adj (u v : Fin 10000 → Fin 10 → EReal) (w z : Fin 10 → Fin 10 → EReal) (i j : Fin 10000) : EReal :=
  max (Ideal.tanh (halfWord * (∑ k : Fin 10, hidden u w i k * hidden v z j k
    - ∑ k : Fin 10, hidden v z i k * hidden u w j k))) 0

/-- A `tanh` is a real number. -/
theorem tanh_real (x : EReal) : ∃ r : ℝ, Ideal.tanh x = (r : EReal) := by
  induction x with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The real number that a component of a hidden vector is. -/
theorem hidden_real (u : Fin 10000 → Fin 10 → EReal) (w : Fin 10 → Fin 10 → EReal) :
    ∃ r : Fin 10000 → Fin 10 → ℝ, ∀ i k, hidden u w i k = (r i k : EReal) :=
  ⟨fun i k => (tanh_real (halfWord * ∑ x : Fin 10, u i x * w k x)).choose,
    fun i k => (tanh_real (halfWord * ∑ x : Fin 10, u i x * w k x)).choose_spec⟩

/-- A sum of products of reals is real. -/
theorem coe_sum_mul (a b : Fin 10 → ℝ) : ∑ k, (a k : EReal) * (b k : EReal) = ((∑ k, a k * b k : ℝ) : EReal) := by
  simp only [← EReal.coe_mul]
  induction (Finset.univ : Finset (Fin 10)) using Finset.induction_on with
  | empty => simp
  | insert x s hx ih => rw [Finset.sum_insert hx, Finset.sum_insert hx, ih, EReal.coe_add]

/-- A sum of products plus a sum of negated products is the difference of the two sums, for hidden vectors. -/
theorem sum_neg (u v : Fin 10000 → Fin 10 → EReal) (w z : Fin 10 → Fin 10 → EReal) (i j : Fin 10000) :
    ∑ k : Fin 10, hidden u w i k * hidden v z j k + ∑ k : Fin 10, (0 - hidden v z i k) * hidden u w j k
      = ∑ k : Fin 10, hidden u w i k * hidden v z j k - ∑ k : Fin 10, hidden v z i k * hidden u w j k := by
  obtain ⟨p, hp⟩ := hidden_real u w
  obtain ⟨q, hq⟩ := hidden_real v z
  simp only [hp, hq]
  have e : ∀ k, (0 : EReal) - (q i k : EReal) = ((-q i k : ℝ) : EReal) := fun k => by
    rw [zero_sub, EReal.coe_neg]
  simp only [e]
  rw [coe_sum_mul, coe_sum_mul, coe_sum_mul, ← EReal.coe_add, ← EReal.coe_sub]
  congr 1
  simp only [neg_mul, Finset.sum_neg_distrib]
  ring

/-- No score is negative. -/
theorem adj_nonneg (u v : Fin 10000 → Fin 10 → EReal) (w z : Fin 10 → Fin 10 → EReal) (i j : Fin 10000) :
    0 ≤ adj u v w z i j := le_max_right _ _

/-- A node's score for itself is zero. -/
theorem adj_self (u v : Fin 10000 → Fin 10 → EReal) (w z : Fin 10 → Fin 10 → EReal) (i : Fin 10000) :
    adj u v w z i i = 0 := by
  unfold adj
  obtain ⟨p, hp⟩ := hidden_real u w
  obtain ⟨q, hq⟩ := hidden_real v z
  simp only [hp, hq]
  rw [coe_sum_mul, coe_sum_mul, ← EReal.coe_sub,
    show ∑ k, p i k * q i k - ∑ k, q i k * p i k = 0 by simp only [mul_comm, sub_self],
    EReal.coe_zero, mul_zero, ← EReal.coe_zero, Ideal.tanh_coe, Real.tanh_zero, max_self]

/-- The kernel's score of row `a` of a block and column `b` is the score of the nodes `i` and `b`, for blocks that hold the
    embeddings of `i` and of all nodes. -/
theorem block_score (u v : Fin 10000 → Fin 10 → EReal) (w z : Fin 10 → Fin 10 → EReal) (i : Fin 10000)
    (x0 x1 : Vec Ideal Cert.KernelIdeal.S200x10 .f32) (x2 x3 : Vec Ideal Cert.KernelIdeal.S10x10000 .f32)
    (x4 x5 : Vec Ideal Cert.KernelIdeal.S10x10 .f32) (a : Fin 200) (b : Fin 10000)
    (e0 : ∀ x, x0 (ix2 a x) = u i x) (e1 : ∀ x, x1 (ix2 a x) = v i x)
    (e2 : ∀ x, x2 (ix2 x b) = u b x) (e3 : ∀ x, x3 (ix2 x b) = v b x)
    (e4 : ∀ k x, x4 (ix2 k x) = w k x) (e5 : ∀ k x, x5 (ix2 k x) = z k x) :
    max (Cert.KernelIdeal.Gen.k0_pay12 (F := Ideal) x4 x5 x0 x1 x2 x3 (ix2 a b)) 0 = adj u v w z i b := by
  rw [score_apply]
  simp only [e0, e1, e2, e3, e4, e5]
  unfold adj
  rw [← sum_neg]
  simp only [hidden, mul_comm (z _ _) (v b _), mul_comm (w _ _) (u b _)]

end Cert.Proof

end

end
-- ==== Proof.KernelValue.lean ====
module

public import proofs.«01_k».proof.Proof.Score
public import proofs.«01_k».proof.Proof.Gen.KernelIdeal.Value
public import proofs.«01_k».proof.Proof.Gen.ReferenceIdeal.Read
public import Idealize.ShloMosaic.Lib.StableHlo.ReadAt
public import Idealize.ShloMosaic.Lib.Pipeline.ValueKit.Point

/-! # The kernel's result array, entry by entry -/

@[expose] public section
noncomputable section
namespace Cert.Proof
open Idealize.ShloMosaic Cert.KernelIdeal Cert.KernelIdeal.Gen
variable (m : (ℓ : Loc nD τ sig) → Buf (Elt Ideal) ℓ) (c : Dev nD)

/-- The kernel's first gathered embedding is the reference's. -/
theorem entry_v0 : V m c main_v0 = Cert.ReferenceIdeal.Read.val_main_v0 (F := Ideal) (m ((c.tc : Thread nD τ).loc main_arg1)) (m ((c.tc : Thread nD τ).loc main_arg2)) := by
  unfold V
  after_reads_simp
  simp -implicitDefEqProofs only [StableHlo.TRef.toBuf, StableHlo.TRef.ofBuf, cast_cast, cast_eq]
  simp only [Cert.ReferenceIdeal.Read.val_main_v0, Cert.ReferenceIdeal.Read.val_main_call0_v15, Cert.ReferenceIdeal.Read.val_main_call0_cst, Cert.ReferenceIdeal.Read.val_main_call0_v14, Cert.ReferenceIdeal.Read.val_main_call0_v13, Cert.ReferenceIdeal.Read.val_main_call0_v12, Cert.ReferenceIdeal.Read.val_main_call0_c_3, Cert.ReferenceIdeal.Read.val_main_call0_v11, Cert.ReferenceIdeal.Read.val_main_call0_v10, Cert.ReferenceIdeal.Read.val_main_call0_v9, Cert.ReferenceIdeal.Read.val_main_call0_v8, Cert.ReferenceIdeal.Read.val_main_call0_v7, Cert.ReferenceIdeal.Read.val_main_call0_v6, Cert.ReferenceIdeal.Read.val_main_call0_c_2, Cert.ReferenceIdeal.Read.val_main_call0_c_1, Cert.ReferenceIdeal.Read.val_main_call0_v5, Cert.ReferenceIdeal.Read.val_main_call0_v4, Cert.ReferenceIdeal.Read.val_main_call0_v3, Cert.ReferenceIdeal.Read.val_main_call0_v2, Cert.ReferenceIdeal.Read.val_main_call0_c_0, Cert.ReferenceIdeal.Read.val_main_call0_v1, Cert.ReferenceIdeal.Read.val_main_call0_v0, Cert.ReferenceIdeal.Read.val_main_call0_c]
  rfl

/-- The kernel's second gathered embedding is the reference's. -/
theorem entry_v1 : V m c main_v1 = Cert.ReferenceIdeal.Read.val_main_v1 (F := Ideal) (m ((c.tc : Thread nD τ).loc main_arg1)) (m ((c.tc : Thread nD τ).loc main_arg3)) := by
  unfold V
  after_reads_simp
  simp -implicitDefEqProofs only [StableHlo.TRef.toBuf, StableHlo.TRef.ofBuf, cast_cast, cast_eq]
  simp only [Cert.ReferenceIdeal.Read.val_main_v1, Cert.ReferenceIdeal.Read.val_main_call1_v15, Cert.ReferenceIdeal.Read.val_main_call1_cst, Cert.ReferenceIdeal.Read.val_main_call1_v14, Cert.ReferenceIdeal.Read.val_main_call1_v13, Cert.ReferenceIdeal.Read.val_main_call1_v12, Cert.ReferenceIdeal.Read.val_main_call1_c_3, Cert.ReferenceIdeal.Read.val_main_call1_v11, Cert.ReferenceIdeal.Read.val_main_call1_v10, Cert.ReferenceIdeal.Read.val_main_call1_v9, Cert.ReferenceIdeal.Read.val_main_call1_v8, Cert.ReferenceIdeal.Read.val_main_call1_v7, Cert.ReferenceIdeal.Read.val_main_call1_v6, Cert.ReferenceIdeal.Read.val_main_call1_c_2, Cert.ReferenceIdeal.Read.val_main_call1_c_1, Cert.ReferenceIdeal.Read.val_main_call1_v5, Cert.ReferenceIdeal.Read.val_main_call1_v4, Cert.ReferenceIdeal.Read.val_main_call1_v3, Cert.ReferenceIdeal.Read.val_main_call1_v2, Cert.ReferenceIdeal.Read.val_main_call1_c_0, Cert.ReferenceIdeal.Read.val_main_call1_v1, Cert.ReferenceIdeal.Read.val_main_call1_v0, Cert.ReferenceIdeal.Read.val_main_call1_c]
  rfl

/-- The third operand of the launch is the first embedding transposed. -/
theorem entry_v2 : V m c main_v2 = transpose S10x10000 [1, 0] (V m c main_v0) transposes_S10000x10_S10x10000_1_0 := by
  unfold V
  after_reads_simp

/-- The fourth operand of the launch is the second embedding transposed. -/
theorem entry_v3 : V m c main_v3 = transpose S10x10000 [1, 0] (V m c main_v1) transposes_S10000x10_S10x10000_1_0 := by
  unfold V
  after_reads_simp

/-- Which block each window holds at a step: the step's rows of the two embeddings and of the result, the whole of all else; and the result's block is written back at every step. -/
theorem index_eq : ∀ t : Fin cfg0.N, (win0_0.index t 0 = t.val ∧ win0_0.index t 1 = 0) ∧ (win0_1.index t 0 = t.val ∧ win0_1.index t 1 = 0)
   ∧ (win0_2.index t 0 = 0 ∧ win0_2.index t 1 = 0) ∧ (win0_3.index t 0 = 0 ∧ win0_3.index t 1 = 0)
   ∧ (win0_4.index t 0 = 0 ∧ win0_4.index t 1 = 0) ∧ (win0_5.index t 0 = 0 ∧ win0_5.index t 1 = 0)
   ∧ (win0_6.index t 0 = t.val ∧ win0_6.index t 1 = 0) ∧ (cfg0.grid.coords t 0).val = t.val ∧ (cfg0.win 6).flush t = true := by decide +kernel

/-- The first window at a step holds 200 rows of the first embedding. -/
theorem blk0 (t : Fin cfg0.N) (a : Fin 200) (x : Fin 10) (h : 200 * t.val + a.val < 10000) : iblk m c 0 t (ix2 a x) = V m c main_v0 (ix2 (⟨200 * t.val + a.val, h⟩ : Fin 10000) x) := by
  have hi := (index_eq t).1
  unfold iblk
  rw [View.read_apply]
  show V m c main_v0 _ = V m c main_v0 _
  refine congrArg (V m c _) (funext fun d => Fin.ext ?_)
  match d with
  | ⟨0, _⟩ => show win0_0.index t 0 * 200 + 1 * a.val = 200 * t.val + a.val; rw [hi.1]; omega
  | ⟨1, _⟩ => show win0_0.index t 1 * 10 + 1 * x.val = x.val; rw [hi.2]; omega

/-- The second window at a step holds 200 rows of the second embedding. -/
theorem blk1 (t : Fin cfg0.N) (a : Fin 200) (x : Fin 10) (h : 200 * t.val + a.val < 10000) : iblk m c 1 t (ix2 a x) = V m c main_v1 (ix2 (⟨200 * t.val + a.val, h⟩ : Fin 10000) x) := by
  have hi := (index_eq t).2.1
  unfold iblk
  rw [View.read_apply]
  show V m c main_v1 _ = V m c main_v1 _
  refine congrArg (V m c _) (funext fun d => Fin.ext ?_)
  match d with
  | ⟨0, _⟩ => show win0_1.index t 0 * 200 + 1 * a.val = 200 * t.val + a.val; rw [hi.1]; omega
  | ⟨1, _⟩ => show win0_1.index t 1 * 10 + 1 * x.val = x.val; rw [hi.2]; omega

/-- The third window holds the first embedding transposed. -/
theorem blk2 (t : Fin cfg0.N) (x : Fin 10) (b : Fin 10000) : iblk m c 2 t (ix2 x b) = V m c main_v0 (ix2 b x) := by
  have hi := (index_eq t).2.2.1
  have e : V m c main_v2 (ix2 x b) = V m c main_v0 (ix2 b x) := by
    rw [entry_v2]; generalize V m c main_v0 = z; pointwise []
  rw [← e]
  unfold iblk
  rw [View.read_apply]
  show V m c main_v2 _ = V m c main_v2 _
  refine congrArg (V m c _) (funext fun d => Fin.ext ?_)
  match d with
  | ⟨0, _⟩ => show win0_2.index t 0 * 10 + 1 * x.val = x.val; rw [hi.1]; omega
  | ⟨1, _⟩ => show win0_2.index t 1 * 10000 + 1 * b.val = b.val; rw [hi.2]; omega

/-- The fourth window holds the second embedding transposed. -/
theorem blk3 (t : Fin cfg0.N) (x : Fin 10) (b : Fin 10000) : iblk m c 3 t (ix2 x b) = V m c main_v1 (ix2 b x) := by
  have hi := (index_eq t).2.2.2.1
  have e : V m c main_v3 (ix2 x b) = V m c main_v1 (ix2 b x) := by
    rw [entry_v3]; generalize V m c main_v1 = z; pointwise []
  rw [← e]
  unfold iblk
  rw [View.read_apply]
  show V m c main_v3 _ = V m c main_v3 _
  refine congrArg (V m c _) (funext fun d => Fin.ext ?_)
  match d with
  | ⟨0, _⟩ => show win0_3.index t 0 * 10 + 1 * x.val = x.val; rw [hi.1]; omega
  | ⟨1, _⟩ => show win0_3.index t 1 * 10000 + 1 * b.val = b.val; rw [hi.2]; omega

/-- The fifth window holds the first weights. -/
theorem blk4 (t : Fin cfg0.N) (a x : Fin 10) : iblk m c 4 t (ix2 a x) = m ((c.tc : Thread nD τ).loc main_arg4) (ix2 a x) := by
  have hi := (index_eq t).2.2.2.2.1
  rw [← V_main_arg4 m c]
  unfold iblk
  rw [View.read_apply]
  show V m c main_arg4 _ = V m c main_arg4 _
  refine congrArg (V m c _) (funext fun d => Fin.ext ?_)
  match d with
  | ⟨0, _⟩ => show win0_4.index t 0 * 10 + 1 * a.val = a.val; rw [hi.1]; omega
  | ⟨1, _⟩ => show win0_4.index t 1 * 10 + 1 * x.val = x.val; rw [hi.2]; omega

/-- The sixth window holds the second weights. -/
theorem blk5 (t : Fin cfg0.N) (a x : Fin 10) : iblk m c 5 t (ix2 a x) = m ((c.tc : Thread nD τ).loc main_arg5) (ix2 a x) := by
  have hi := (index_eq t).2.2.2.2.2.1
  rw [← V_main_arg5 m c]
  unfold iblk
  rw [View.read_apply]
  show V m c main_arg5 _ = V m c main_arg5 _
  refine congrArg (V m c _) (funext fun d => Fin.ext ?_)
  match d with
  | ⟨0, _⟩ => show win0_5.index t 0 * 10 + 1 * a.val = a.val; rw [hi.1]; omega
  | ⟨1, _⟩ => show win0_5.index t 1 * 10 + 1 * x.val = x.val; rw [hi.2]; omega

/-- The result's block of a step lies at the step's rows of the result array. -/
theorem emb6 (t : Fin cfg0.N) (a : Fin 200) (b : Fin 10000) (h : 200 * t.val + a.val < 10000) :
    ((cfg0.win 6).blk t).view.emb (ix2 a b) = ix2 (⟨200 * t.val + a.val, h⟩ : Fin 10000) b := by
  have hi := (index_eq t).2.2.2.2.2.2.1
  funext d
  apply Fin.ext
  match d with
  | ⟨0, _⟩ => show win0_6.index t 0 * 200 + 1 * a.val = 200 * t.val + a.val; rw [hi.1]; omega
  | ⟨1, _⟩ => show win0_6.index t 1 * 10000 + 1 * b.val = b.val; rw [hi.2]; omega

/-- An entry of the kernel's result array: one on the diagonal; elsewhere the score where it reaches the row's bound after fifteen rounds, and zero where it doesn't. -/
theorem result (R C : Fin 10000) : ∃ bd : ℕ → EReal,
   Rounds (kept (adj (fun a x => V m c main_v0 (ix2 a x)) (fun a x => V m c main_v1 (ix2 a x)) (fun a x => m ((c.tc : Thread nD τ).loc main_arg4) (ix2 a x)) (fun a x => m ((c.tc : Thread nD τ).loc main_arg5) (ix2 a x)) R)) bd
   ∧ (dats m 0 c).arrAt 6 cfg0.N (ix2 R C) = if C.val = R.val then 1 else
      if bd 14 ≤ adj (fun a x => V m c main_v0 (ix2 a x)) (fun a x => V m c main_v1 (ix2 a x)) (fun a x => m ((c.tc : Thread nD τ).loc main_arg4) (ix2 a x)) (fun a x => m ((c.tc : Thread nD τ).loc main_arg5) (ix2 a x)) R C
      then adj (fun a x => V m c main_v0 (ix2 a x)) (fun a x => V m c main_v1 (ix2 a x)) (fun a x => m ((c.tc : Thread nD τ).loc main_arg4) (ix2 a x)) (fun a x => m ((c.tc : Thread nD τ).loc main_arg5) (ix2 a x)) R C else 0 := by
  have hN : cfg0.N = 50 := by decide
  have hR := R.isLt
  let t : Fin cfg0.N := ⟨R.val / 200, by omega⟩
  let a : Fin 200 := ⟨R.val % 200, by omega⟩
  have h : 200 * t.val + a.val < 10000 := by show 200 * (R.val / 200) + R.val % 200 < 10000; omega
  have eR : R = ⟨200 * t.val + a.val, h⟩ := Fin.ext (by show R.val = 200 * (R.val / 200) + R.val % 200; omega)
  have hf := (index_eq t).2.2.2.2.2.2.2.2
  have hb := congrFun (Cert.KernelIdeal.Value.blocks6 m c t hf) (ix2 a C)
  rw [View.read_apply, emb6 t a C h, ← eR, Cert.KernelIdeal.Value.flushed6_A] at hb
  have hg : (grid0.coords t 0).val = t.val := (index_eq t).2.2.2.2.2.2.2.1
  have hc : ∀ O : Vec Ideal S200x10000 .f32, (cfg0.win 6).cut (grid0.coords t) O (ix2 a C) = O (ix2 a C) := fun O => rfl
  rw [cast_eq] at hb
  have hb' := hb.trans (hc _)
  have hs : ∀ b, scores c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t) (ix2 a b) = adj (fun a x => V m c main_v0 (ix2 a x)) (fun a x => V m c main_v1 (ix2 a x)) (fun a x => m ((c.tc : Thread nD τ).loc main_arg4) (ix2 a x)) (fun a x => m ((c.tc : Thread nD τ).loc main_arg5) (ix2 a x)) R b := by
    intro b
    rw [scores_apply]
    refine block_score _ _ _ _ R _ _ _ _ _ _ a b ?_ ?_ ?_ ?_ ?_ ?_
    · intro x; rw [blk0 m c t a x h, ← eR]
    · intro x; rw [blk1 m c t a x h, ← eR]
    · exact fun x => blk2 m c t x b
    · exact fun x => blk3 m c t x b
    · exact fun k x => blk4 m c t k x
    · exact fun k x => blk5 m c t k x
  have hr := bound_rounds c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t) a
  simp only [hs] at hr
  refine ⟨_, hr, ?_⟩
  rw [hb', out_apply, hs, hg]
  have hv : 200 * t.val + a.val = R.val := (congrArg Fin.val eR).symm
  rw [hv]
end Cert.Proof
end
end
-- ==== Proof.RefValue.lean ====
module

public import proofs.«01_k».proof.Proof.Score
public import proofs.«01_k».proof.Proof.Gen.ReferenceIdeal.Read
public import Idealize.ShloMosaic.Lib.SortFacts
public import Idealize.ShloMosaic.Lib.ScatterToDense.RefScatter

/-! # The reference's result, entry by entry -/

@[expose] public section
noncomputable section
namespace Cert.Proof
open Idealize.ShloMosaic Cert.ReferenceIdeal Cert.ReferenceIdeal.Gen Cert.ReferenceIdeal.Read

variable (x1 : (⟨S10000, .i32⟩ : BufTy).Contents (Elt Ideal)) (x2 x3 : (⟨S10000x10, .f32⟩ : BufTy).Contents (Elt Ideal)) (x4 x5 : (⟨S10x10, .f32⟩ : BufTy).Contents (Elt Ideal))

/-- The order in which a stable sort, the greatest first, puts a row's columns. -/
def order {n : ℕ} (f : Fin n → EReal) : Fin n → Fin n :=
  sortedFrom fun k k' => FloatOps.cmpfTotal (F := Ideal) (φ := .f32) .gt (f k) (f k') == 1#1

/-- The comparison by which the rows are sorted, over extended reals. -/
theorem gt_iff (a b : EReal) : (FloatOps.cmpfTotal (F := Ideal) (φ := .f32) .gt a b == 1#1) = decide (b < a) := by
  show (Ideal.cmp .ogt a b == 1#1) = _
  unfold Ideal.cmp
  by_cases h : b < a <;> simp [h]

/-- The sort of a row visits each column once, greatest first. -/
theorem order_is (f : Fin 10000 → EReal) : Order f (order f) where
  inj := sortedFrom_injective _
  surj := sortedFrom_surjective _
  desc i j h := by
    have := sortedFrom_noInversion (fun k k' => FloatOps.cmpfTotal (F := Ideal) (φ := .f32) .gt (f k) (f k') == 1#1)
      (fun k k' => FloatOps.cmpfTotal (F := Ideal) (φ := .f32) .gt (f k) (f k') == 1#1) ?_ ?_ ?_ i j h
    · rw [gt_iff] at this
      exact not_lt.1 (of_decide_eq_false this)
    · intro a b hab
      rw [gt_iff] at hab ⊢
      exact decide_eq_false (not_lt.2 (of_decide_eq_true hab).le)
    · exact fun _ _ h => h
    · intro a b c h h'
      rw [gt_iff] at h h' ⊢
      exact decide_eq_false (not_lt.2 ((not_lt.1 (of_decide_eq_false h)).trans (not_lt.1 (of_decide_eq_false h'))))

/-- The reference's score of the nodes `i` and `j`. -/
theorem ref_adj (i j : Fin 10000) : val_main_v20 (F := Ideal) x1 x2 x3 x4 x5 (ix2 i j)
    = adj (fun a b => val_main_v0 (F := Ideal) x1 x2 (ix2 a b)) (fun a b => val_main_v1 (F := Ideal) x1 x3 (ix2 a b))
       (fun a b => x4 (ix2 a b)) (fun a b => x5 (ix2 a b)) i j := by
  unfold adj hidden
  simp only [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_call2_v0, val_main_call2_cst]
  generalize val_main_v0 (F := Ideal) x1 x2 = u
  generalize val_main_v1 (F := Ideal) x1 x3 = v
  pointwise []

/-- An index moved along its second axis. -/
theorem along_eq {T n : ℕ} (j : (Routing.shape2 T n).Idx) (h : 1 < 2) (k : Fin n) :
    j.along (⟨1, h⟩ : Fin (Routing.shape2 T n).rank) k = ix2 (j 0) k := by
  funext a
  match a with
  | ⟨0, _⟩ => exact Function.update_of_ne (fun e => absurd (congrArg Fin.val e) (by simp)) _ _
  | ⟨1, _⟩ => exact Function.update_self _ _ _

/-- What a row's sort by its own entries puts first. -/
theorem along_order {T n : ℕ} (x : (Routing.shape2 T n).Idx → EReal) (h : 1 < 2) (R : Fin T) (z : Fin n) :
    (ix2 R z : (Routing.shape2 T n).Idx).along (⟨1, h⟩ : Fin (Routing.shape2 T n).rank)
      (sortedFrom (fun k k' => FloatOps.cmpfTotal (F := Ideal) (φ := .f32) .gt
        (x ((ix2 R z : (Routing.shape2 T n).Idx).along (⟨1, h⟩ : Fin (Routing.shape2 T n).rank) k))
        (x ((ix2 R z : (Routing.shape2 T n).Idx).along (⟨1, h⟩ : Fin (Routing.shape2 T n).rank) k')) == 1#1) z)
      = ix2 R (order (fun C => x (ix2 R C)) z) := by
  have hk : ∀ k : Fin n, (ix2 R z : (Routing.shape2 T n).Idx).along (⟨1, h⟩ : Fin (Routing.shape2 T n).rank) k = ix2 R k :=
    fun k => along_eq _ _ _
  refine (along_eq (ix2 R z) h _).trans ?_
  exact congrArg (fun g : Fin n → (Routing.shape2 T n).Idx => (ix2 R (sortedFrom (fun k k' : Fin n =>
    FloatOps.cmpfTotal (F := Ideal) (φ := .f32) .gt (x (g k)) (x (g k')) == 1#1) z) : (Routing.shape2 T n).Idx)) (funext hk)

/-- The first `K` columns of an array, read at one of them. -/
theorem slice_front {α : Type} {T n K : ℕ} (g : (Routing.shape2 T n).Idx → α)
    (h : (Routing.shape2 T n).Slices (fun _ => 0) (Routing.shape2 T K)) (R : Fin T) (k : Fin K) (hk : k.val < n) :
    extractStridedSlice (Routing.shape2 T K) (fun _ => 0) g h (ix2 R k) = g (ix2 R ⟨k.val, hk⟩) := by
  unfold extractStridedSlice
  congr 1
  funext a
  match a with
  | ⟨0, _⟩ => exact Fin.ext (Nat.zero_add _)
  | ⟨1, _⟩ => exact Fin.ext (Nat.zero_add _)

/-- The columns that a greatest-`K` selection returns. -/
theorem topk_index {T n K : ℕ} (x : (Routing.shape2 T n).Idx → EReal)
    (h : (Routing.shape2 T n).Slices (fun _ => 0) (Routing.shape2 T K)) (R : Fin T) (k : Fin K) (hk : k.val < n) :
    (Host.topK (s := Routing.shape2 T n) (Routing.shape2 T K) 1 (FloatOps.cmpfTotal (F := Ideal) (φ := .f32) .gt) x h).2 (ix2 R k)
      = BitVec.ofNat 32 (order (fun C => x (ix2 R C)) ⟨k.val, hk⟩).val := by
  unfold Host.topK Host.sort2
  dsimp only
  rw [dif_pos (show 1 < (Routing.shape2 T n).rank from Nat.one_lt_two)]
  refine (slice_front _ h R k hk).trans ?_
  exact congrArg (fun j : (Routing.shape2 T n).Idx => BitVec.ofNat 32 (j 1).val) (along_order x (by decide) R ⟨k.val, hk⟩)

/-- The values that a greatest-`K` selection returns. -/
theorem topk_value {T n K : ℕ} (x : (Routing.shape2 T n).Idx → EReal)
    (h : (Routing.shape2 T n).Slices (fun _ => 0) (Routing.shape2 T K)) (R : Fin T) (k : Fin K) (hk : k.val < n) :
    (Host.topK (s := Routing.shape2 T n) (Routing.shape2 T K) 1 (FloatOps.cmpfTotal (F := Ideal) (φ := .f32) .gt) x h).1 (ix2 R k)
      = x (ix2 R (order (fun C => x (ix2 R C)) ⟨k.val, hk⟩)) := by
  unfold Host.topK Host.sort2
  dsimp only
  rw [dif_pos (show 1 < (Routing.shape2 T n).rank from Nat.one_lt_two)]
  refine (slice_front _ h R k hk).trans ?_
  exact congrArg (fun j : (Routing.shape2 T n).Idx => x j) (along_order x Nat.one_lt_two R ⟨k.val, hk⟩)

/-- The entry at a position, for any natural number. -/
def nth {n : ℕ} [NeZero n] (g : Fin n → Fin n) (k : ℕ) : Fin n := if h : k < n then g ⟨k, h⟩ else g 0

/-- The entry at a position within range. -/
theorem nth_of_lt {n : ℕ} [NeZero n] (g : Fin n → Fin n) {k : ℕ} (h : k < n) : nth g k = g ⟨k, h⟩ := dif_pos h

/-- The first of a scattered pair of words is the row's number. -/
theorem tok (i : Fin 10000) (k : Fin 15) : val_main_v37 (F := Ideal) x1 x2 x3 x4 x5 (ix3 i k 0) = BitVec.ofNat 32 i.val := by
  unfold val_main_v37
  generalize val_main_v36 (F := Ideal) x1 x2 x3 x4 x5 = z
  simp only [val_main_v35, val_main_v34, val_main_v28, val_main_v27, val_main_v26, val_main_v25, val_main_v24, val_main_v22, val_main_v21, val_main_c, val_main_c_3]
  pointwise []
  rw [Routing.wrap_of_lt]
  rw [BitVec.toNat_ofNat]; omega

/-- The reference's `k`th selected column of row `i`. -/
theorem indices_apply (i : Fin 10000) (k : Fin 15) : val_main_indices (F := Ideal) x1 x2 x3 x4 x5 (ix2 i k)
    = BitVec.ofNat 32 (nth (order (fun C => val_main_v20 (F := Ideal) x1 x2 x3 x4 x5 (ix2 i C))) k.val).val := by
  rw [nth_of_lt _ (by omega)]
  exact topk_index (val_main_v20 (F := Ideal) x1 x2 x3 x4 x5) _ i k (by omega)

/-- The second of a scattered pair of words is the selected column. -/
theorem word (i : Fin 10000) (k : Fin 15) : val_main_v37 (F := Ideal) x1 x2 x3 x4 x5 (ix3 i k 1)
    = BitVec.ofNat 32 (nth (order (fun C => val_main_v20 (F := Ideal) x1 x2 x3 x4 x5 (ix2 i C))) k.val).val := by
  have e := indices_apply x1 x2 x3 x4 x5 i k
  have hl := (nth (order (fun C => val_main_v20 (F := Ideal) x1 x2 x3 x4 x5 (ix2 i C))) k.val).isLt
  rw [← e]
  unfold val_main_v37
  generalize val_main_v35 (F := Ideal) = z
  simp only [val_main_v36, val_main_v33, val_main_v32, val_main_v31, val_main_v30, val_main_v29, val_main_c_4, val_main_c_5]
  generalize (nth (order (fun C => val_main_v20 (F := Ideal) x1 x2 x3 x4 x5 (ix2 i C))) k.val).val = q at e hl
  pointwise []
  rw [Routing.wrap_of_lt]
  rw [e, BitVec.toNat_ofNat]; omega

open Classical in

/-- One where a column is among the first `K` of a list, zero elsewhere. -/
def hit (f : ℕ → Fin 10000) (j : Fin 10000) (K : ℕ) : EReal := if ∃ k < K, f k = j then 1 else 0

/-- Ones written over zeros at the first `K` of a list of columns. -/
theorem last_word (f : ℕ → Fin 10000) (j : Fin 10000) (K : ℕ) :
    ScatterToDense.GS (fun k => BitVec.ofNat 32 (f k).val) (fun _ => (1 : EReal)) 0 j.val K = hit f j K := by
  classical
  unfold hit
  induction K with
  | zero => rw [ScatterToDense.GS_zero, if_neg (by rintro ⟨k, h, -⟩; omega)]
  | succ K ih =>
    rw [ScatterToDense.GS_succ, ih]
    have e : (j.val = (BitVec.ofNat 32 (f K).val).toNat) ↔ f K = j := by
      have := (f K).isLt
      rw [BitVec.toNat_ofNat, Fin.ext_iff]; omega
    by_cases h : f K = j
    · rw [if_pos (e.2 h), if_pos ⟨K, K.lt_succ_self, h⟩]
    · rw [if_neg (fun h' => h (e.1 h'))]
      refine if_congr ⟨fun ⟨k, hk, q⟩ => ⟨k, by omega, q⟩, fun ⟨k, hk, q⟩ => ⟨k, ?_, q⟩⟩ rfl rfl
      have : k ≠ K := fun e => h (e ▸ q)
      omega

/-- The reference's mask is one at the row's fifteen selected columns and zero elsewhere. -/
theorem mask_apply (i j : Fin 10000) : val_main_v39 (F := Ideal) x1 x2 x3 x4 x5 (ix2 i j)
    = hit (nth (order (fun C => val_main_v20 (F := Ideal) x1 x2 x3 x4 x5 (ix2 i C)))) j 15 := by
  have e0 : val_main_v23 (F := Ideal) (ix2 i j) = (0 : EReal) := by
    pointwise [val_main_v23, val_main_cst_2]
  have e1 : ∀ (i : Fin 10000) (k : Fin 15), val_main_v38 (F := Ideal) (ix2 i k) = (1 : EReal) := fun i k => by
    pointwise [val_main_v38, val_main_cst_6]
  have e := ScatterToDense.scatter_eq_GS (T := 10000) (C := 10000) (K := 15) scatter_S10000x10000_S10000x15x2_S10000x15_n_01_01_2 rfl rfl rfl (by decide) (by decide)
    (val_main_v23 (F := Ideal)) (val_main_v37 (F := Ideal) x1 x2 x3 x4 x5) (val_main_v38 (F := Ideal))
    (fun i k => BitVec.ofNat 32 (nth (order (fun C => val_main_v20 (F := Ideal) x1 x2 x3 x4 x5 (ix2 i C))) k).val) (fun _ _ => (1 : EReal))
    (fun i k => tok x1 x2 x3 x4 x5 i k) (fun i k => word x1 x2 x3 x4 x5 i k) (fun i k => e1 i k) i j
  have l := last_word (nth (order (fun C => val_main_v20 (F := Ideal) x1 x2 x3 x4 x5 (ix2 i C)))) j 15
  have e0' : val_main_v23 (F := Ideal) (ValueIdx.ix2 i j) = (0 : EReal) := e0
  rw [e0'] at e
  unfold val_main_v39
  exact Eq.trans e l

/-- The reference's result: the score times the mask, plus one on the diagonal. -/
theorem ref_apply (i j : Fin 10000) : val_main_v47 (F := Ideal) x1 x2 x3 x4 x5 (ix2 i j)
    = val_main_v20 (F := Ideal) x1 x2 x3 x4 x5 (ix2 i j) * val_main_v39 (F := Ideal) x1 x2 x3 x4 x5 (ix2 i j) + if j = i then 1 else 0 := by
  rw [val_main_v47]
  simp only [val_main_v40, val_main_v46, val_main_v45, val_main_v44, val_main_v43, val_main_v42, val_main_v41, val_main_c_7]
  generalize val_main_v20 (F := Ideal) x1 x2 x3 x4 x5 = u
  generalize val_main_v39 (F := Ideal) x1 x2 x3 x4 x5 = v
  pointwise []
  congr 1
  have e : (BitVec.ofNat 32 i.val = BitVec.ofNat 32 j.val) ↔ j = i := by
    have := i.isLt
    have := j.isLt
    rw [← BitVec.toNat_inj, BitVec.toNat_ofNat, BitVec.toNat_ofNat, Fin.ext_iff]; omega
  by_cases h : j = i
  · subst h
    simp [IntOp.cmpi, IntOp.addi, FloatOps.uitofp]
  · rw [if_neg h]
    have := fun h' => h (e.1 h')
    simp [IntOp.cmpi, IntOp.addi, FloatOps.uitofp, beq_eq_false_iff_ne.mpr this]

end Cert.Proof
end
end
-- ==== Proof.PreRead.lean ====
module

public import proofs.«01_k».proof.Proof.RefValue
public import proofs.«01_k».proof.Defs
public import Idealize.ShloMosaic.Lib.Routing.Words
public import Idealize.ShloMosaic.Lib.StableHlo.Predicate
public import proofs.«01_k».proof.Proof.Gen.ReferenceIdeal.Read
public import proofs.«01_k».proof.Proof.Gen.Pre_separated

/-! # What the precondition says of each row -/

@[expose] public section
noncomputable section
namespace Cert.Proof
open Idealize.ShloMosaic Cert.ReferenceIdeal.Read Cert.Pre_separated Cert.Pre_separated.Gen

variable (x0 : FVec Ideal S10000x128 .f32) (x1 : IVec S10000 32) (x2 x3 : FVec Ideal S10000x10 .f32) (x4 x5 : FVec Ideal S10x10 .f32)

/-- The precondition is its last part, read at the sixteen greatest of each row of the reference's scores. -/
theorem pre_eq : fn (F := Ideal) x0 x1 x2 x3 x4 x5 = fn_part3 (F := Ideal)
   (Host.topK (s := S10000x10000) S10000x16 1 (FloatOps.cmpfTotal (F := Ideal) (φ := .f32) .gt) (val_main_v20 (F := Ideal) x1 x2 x3 x4 x5) sliceFits_S10000x10000_S10000x16).1
   (Host.topK (s := S10000x10000) S10000x16 1 (FloatOps.cmpfTotal (F := Ideal) (φ := .f32) .gt) (val_main_v20 (F := Ideal) x1 x2 x3 x4 x5) sliceFits_S10000x10000_S10000x16).2
   (shapeCast S10000 (extractStridedSlice S10000x1 ![0, 15] (Host.topK (s := S10000x10000) S10000x16 1 (FloatOps.cmpfTotal (F := Ideal) (φ := .f32) .gt) (val_main_v20 (F := Ideal) x1 x2 x3 x4 x5) sliceFits_S10000x10000_S10000x16).1 slices_S10000x16_S10000x1_0_15) shapeCasts_S10000x1_S10000) := by
  rfl

/-- A disjunction of a bit with a conjunction is one only where the first bit is or both others are. -/
theorem bits : ∀ (p q : Bool) (x : BitVec 1), IntOp.ori (BitVec.ofBool p) (IntOp.andi (BitVec.ofBool q) x) = 1#1 → p = true ∨ (q = true ∧ x = 1#1) := by
  decide

/-- What the precondition's last part says at row `R` and place `i`, for values `v` and columns `w` whose row `R` lists `σ`. -/
theorem part3 (v : FVec Ideal S10000x16 .f32) (w : IVec S10000x16 32) (R : Fin 10000) (i : Fin 15)
    (σ : Fin 16 → Fin 10000) (hw : ∀ k, w (ix2 R k) = BitVec.ofNat 32 (σ k).val)
    (h : fn_part3 (F := Ideal) v w (shapeCast S10000 (extractStridedSlice S10000x1 ![0, 15] v slices_S10000x16_S10000x1_0_15) shapeCasts_S10000x1_S10000) (ix2 R i) = 1#1) :
    v (ix2 R 15) ≤ 0 ∨ (v (ix2 R ⟨i.val + 1, by omega⟩) < v (ix2 R ⟨i.val, by omega⟩)
      ∧ ∑ j : Fin 15, (decide ((σ ⟨j.val, by omega⟩).val % 128 = (σ ⟨i.val, by omega⟩).val % 128)).toNat ≤ 8) := by
  revert h
  unfold fn_part3
  dsimp only
  pointwise []
  intro h
  rcases bits _ _ _ h with h | ⟨h, h'⟩
  · exact Or.inl (of_decide_eq_true h)
  · refine Or.inr ⟨?_, ?_⟩
    · have e : (⟨1 + i.val, by omega⟩ : Fin 16) = ⟨i.val + 1, by omega⟩ := Fin.ext (Nat.add_comm _ _)
      rw [← e]
      exact of_decide_eq_true h
    · have hr : ∀ k, IntOp.remsi ArithUnit.host (w (ix2 R k)) 128#32 = BitVec.ofNat 32 ((σ k).val % 128) := fun k => by
        rw [hw]
        exact Routing.remsi_word _ (by have := (σ k).isLt; omega) (by omega) (by omega)
      simp only [hr] at h'
      have hb : ∀ a b : Fin 10000, (BitVec.setWidth 32 (IntOp.cmpi CmpIPredicate.eq (BitVec.ofNat 32 (a.val % 128)) (BitVec.ofNat 32 (b.val % 128)))).toNat
          = (decide (b.val % 128 = a.val % 128)).toNat := fun a b => by
        by_cases e : b.val % 128 = a.val % 128
        · simp [IntOp.cmpi, e]
        · have : BitVec.ofNat 32 (a.val % 128) ≠ BitVec.ofNat 32 (b.val % 128) := fun q => by
            rw [← BitVec.toNat_inj, BitVec.toNat_ofNat, BitVec.toNat_ofNat] at q
            omega
          simp [IntOp.cmpi, e, beq_eq_false_iff_ne.mpr this]
      have hs := StableHlo.Predicate.toNat_fold_addi Finset.univ (fun x : Fin 15 => BitVec.setWidth 32
        (IntOp.cmpi CmpIPredicate.eq (BitVec.ofNat 32 ((σ ⟨i.val, by omega⟩).val % 128)) (BitVec.ofNat 32 ((σ ⟨x.val, by omega⟩).val % 128))))
      simp only [hb] at hs
      have hle : ∑ j : Fin 15, (decide ((σ ⟨j.val, by omega⟩).val % 128 = (σ ⟨i.val, by omega⟩).val % 128)).toNat ≤ 15 := by
        refine (Finset.sum_le_card_nsmul _ _ 1 fun j _ => Bool.toNat_le _).trans ?_
        simp
      have hs' := hs (by omega)
      rw [← hs']
      rw [← hs'] at hle
      revert h' hle
      generalize Finset.fold IntOp.addi (0#32) (fun x : Fin 15 => BitVec.setWidth 32
        (IntOp.cmpi CmpIPredicate.eq (BitVec.ofNat 32 ((σ ⟨i.val, by omega⟩).val % 128)) (BitVec.ofNat 32 ((σ ⟨x.val, by omega⟩).val % 128)))) Finset.univ = z
      intro h' hle
      have : (z.sle 8#32) = true := by
        unfold IntOp.cmpi at h'
        revert h'
        cases z.sle 8#32 <;> simp
      rw [BitVec.sle_iff_toInt_le, BitVec.toInt_eq_toNat_of_lt (by omega)] at this
      have e8 : (8#32).toInt = 8 := by decide
      omega

/-- The precondition's array all ones says that every row of the scores is separated. -/
theorem separated_of_pre (h : fn (F := Ideal) x0 x1 x2 x3 x4 x5 = fun _ => 1#1) (R : Fin 10000) :
    Separated (fun C => val_main_v20 (F := Ideal) x1 x2 x3 x4 x5 (ix2 R C)) (order (fun C => val_main_v20 (F := Ideal) x1 x2 x3 x4 x5 (ix2 R C))) := by
  intro i
  rw [pre_eq] at h
  have hv : ∀ (k : Fin 16), (Host.topK (s := S10000x10000) S10000x16 1 (FloatOps.cmpfTotal (F := Ideal) (φ := .f32) .gt) (val_main_v20 (F := Ideal) x1 x2 x3 x4 x5) sliceFits_S10000x10000_S10000x16).1 (ix2 R k)
      = val_main_v20 (F := Ideal) x1 x2 x3 x4 x5 (ix2 R (order (fun C => val_main_v20 (F := Ideal) x1 x2 x3 x4 x5 (ix2 R C)) ⟨k.val, by omega⟩)) :=
    fun k => topk_value (val_main_v20 (F := Ideal) x1 x2 x3 x4 x5) _ R k (by omega)
  have := part3 _ _ R i (fun k => order (fun C => val_main_v20 (F := Ideal) x1 x2 x3 x4 x5 (ix2 R C)) ⟨k.val, by omega⟩)
    (fun k => topk_index (val_main_v20 (F := Ideal) x1 x2 x3 x4 x5) _ R k (by omega)) (congrFun h (ix2 R i))
  rw [hv, hv, hv] at this
  exact this

end Cert.Proof
end
end
-- ==== Proof.Entry.lean ====
module

public import proofs.«01_k».proof.Proof.KernelValue
public import proofs.«01_k».proof.Proof.PreRead

/-! # The two results are equal -/

@[expose] public section

noncomputable section

namespace Cert.Proof

open Idealize.ShloMosaic

/-- A column among the first `K` is a hit. -/
theorem hit_pos {f : ℕ → Fin 10000} {j : Fin 10000} {K : ℕ} (h : ∃ k < K, f k = j) : hit f j K = 1 := by
  unfold hit
  exact if_pos h

/-- A column not among the first `K` is none. -/
theorem hit_neg {f : ℕ → Fin 10000} {j : Fin 10000} {K : ℕ} (h : ¬ ∃ k < K, f k = j) : hit f j K = 0 := by
  unfold hit
  exact if_neg h

/-- One entry of a row, by the kernel's bound and by the reference's mask: the two agree where the row is separated and zero
    on the diagonal. -/
theorem meet {f : Fin 10000 → EReal} {σ : Fin 10000 → Fin 10000} {bd : ℕ → EReal} (hf : ∀ c, 0 ≤ f c) (h : Order f σ)
    (hs : Separated f σ) (hm : Rounds (kept f) bd) (R C : Fin 10000) (h0 : f R = 0) :
    (if C.val = R.val then 1 else if bd 14 ≤ f C then f C else 0) = f C * hit (nth σ) C 15 + if C = R then 1 else 0 := by
  by_cases e : C = R
  · subst e
    rw [if_pos rfl, if_pos rfl, h0, zero_mul, zero_add]
  rw [if_neg (fun q => e (Fin.ext q)), if_neg e, add_zero]
  rcases (hf C).eq_or_lt with z | p
  · rw [← z, zero_mul, ite_self]
  obtain ⟨i, rfl⟩ := h.surj C
  have q := reaches_iff hf h hs hm i p
  by_cases hi : i.val < 15
  · rw [if_pos (q.2 hi), hit_pos ⟨i.val, hi, nth_of_lt σ i.isLt⟩, mul_one]
  · rw [if_neg (mt q.1 hi), hit_neg, mul_zero]
    rintro ⟨k, hk, w⟩
    rw [nth_of_lt σ (by omega)] at w
    have := congrArg Fin.val (h.inj w)
    exact hi (by rw [← this]; exact hk)

open Cert.KernelIdeal Cert.KernelIdeal.Gen Cert.ReferenceIdeal.Read in

/-- The kernel's result array is the reference's, entry by entry, where the precondition holds. -/
theorem entries (m : (ℓ : Loc nD τ sig) → Buf (Elt Ideal) ℓ) (c : Dev nD)
    (hp : Cert.Pre_separated.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    (dats m 0 c).arrAt 6 cfg0.N = val_main_v47 (F := Ideal) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  have key : ∀ R C : Fin 10000, (dats m 0 c).arrAt 6 cfg0.N (ix2 R C) = val_main_v47 (F := Ideal) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 R C) := by
    intro R C
    obtain ⟨bd, hr, he⟩ := result m c R C
    have h0 : (fun (a : Fin 10000) (x : Fin 10) => (V m c main_v0 (ix2 a x) : EReal)) = fun a x => val_main_v0 (F := Ideal)
        (m ((c.tc : Thread nD τ).loc main_arg1)) (m ((c.tc : Thread nD τ).loc main_arg2)) (ix2 a x) :=
      funext fun a => funext fun x => congrFun (entry_v0 m c) (ix2 a x)
    have h1 : (fun (a : Fin 10000) (x : Fin 10) => (V m c main_v1 (ix2 a x) : EReal)) = fun a x => val_main_v1 (F := Ideal)
        (m ((c.tc : Thread nD τ).loc main_arg1)) (m ((c.tc : Thread nD τ).loc main_arg3)) (ix2 a x) :=
      funext fun a => funext fun x => congrFun (entry_v1 m c) (ix2 a x)
    rw [h0, h1] at hr he
    have hs := separated_of_pre _ _ _ _ _ _ hp R
    have ho := order_is (fun C => val_main_v20 (F := Ideal) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 R C))
    rw [he, ref_apply, mask_apply]
    simp only [ref_adj] at hs ho ⊢
    exact meet (fun _ => adj_nonneg _ _ _ _ _ _) ho hs hr R C (adj_self _ _ _ _ _)
  funext j
  have e : j = ix2 (j 0) (j 1) := by
    funext a
    match a with
    | ⟨0, _⟩ => rfl
    | ⟨1, _⟩ => rfl
  rw [e]
  exact key _ _

end Cert.Proof

end

end
-- ==== Proof.lean ====
/- The certificate's claims: the frames, the kernel's text over extended reals, and the equality of the kernel's result with
   the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.KernelIdeal.Value
public import proofs.«01_k».proof.Proof.Gen.ReferenceIdeal.Run
public import proofs.«01_k».proof.Proof.Gen.ReferenceIdeal.Read
public import proofs.«01_k».proof.Proof.Entry
public import Idealize.ShloMosaic.Adequacy
public import Idealize.ShloMosaic.Init

@[expose] public section

noncomputable section

namespace Cert.Proof

open Idealize.ShloMosaic Idealize.SL.Sem Cert.Kernel

/-- The kernel and the reference, over extended reals, end with one and the same array. -/
theorem algebraic : Cert.algebraic_KernelIdeal_ReferenceIdeal_pre_separated := by
  intro m g m' g' hp ha
  refine ⟨fun c => Cert.ReferenceIdeal.Read.val_main_v47 (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run _ _ _).mono (fun r h c => ?_) (Cert.KernelIdeal.Value.run_blocks m g)
    exact ⟨(h c).1.trans (entries m c (hp c)), (h c).2⟩
  · refine (θ_run _ _ _).mono (fun r h c => ?_) (Cert.ReferenceIdeal.Value.run m' g')
    refine ⟨(h c).1.trans ((Cert.ReferenceIdeal.Read.val_main_v47_eq m' c).trans ?_), (h c).2⟩
    obtain ⟨-, h1, h2, h3, h4, h5⟩ := ha c
    rw [h1, h2, h3, h4, h5]

/-- The reference runs and leaves its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts, Cert.Pre_separated.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
